-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x384x384 : Shape := ⟨4, ![64, 3, 384, 384]⟩
abbrev S768x192 : Shape := ⟨2, ![768, 192]⟩
abbrev S192 : Shape := ⟨1, ![192]⟩
abbrev S384x384 : Shape := ⟨2, ![384, 384]⟩
abbrev S16x16x3x192 : Shape := ⟨4, ![16, 16, 3, 192]⟩
abbrev S3x16x16x192 : Shape := ⟨4, ![3, 16, 16, 192]⟩
abbrev S48x16x192 : Shape := ⟨3, ![48, 16, 192]⟩
abbrev S_ : Shape := ⟨0, ![]⟩
abbrev S48x16x256 : Shape := ⟨3, ![48, 16, 256]⟩
abbrev S256 : Shape := ⟨1, ![256]⟩
abbrev S1x256 : Shape := ⟨2, ![1, 256]⟩
abbrev S64x474x192 : Shape := ⟨3, ![64, 474, 192]⟩
abbrev S64x58x192 : Shape := ⟨3, ![64, 58, 192]⟩
abbrev S4x3x384x384 : Shape := ⟨4, ![4, 3, 384, 384]⟩
abbrev S4x474x192 : Shape := ⟨3, ![4, 474, 192]⟩
abbrev S4x58x192 : Shape := ⟨3, ![4, 58, 192]⟩
abbrev S6144x2048 : Shape := ⟨2, ![6144, 2048]⟩
abbrev S1x16x256 : Shape := ⟨3, ![1, 16, 256]⟩
abbrev S16x256 : Shape := ⟨2, ![16, 256]⟩
abbrev S1x1x384x384 : Shape := ⟨4, ![1, 1, 384, 384]⟩
abbrev S24x384 : Shape := ⟨2, ![24, 384]⟩
abbrev S72x128 : Shape := ⟨2, ![72, 128]⟩
abbrev S72x6144 : Shape := ⟨2, ![72, 6144]⟩
abbrev S288x6144 : Shape := ⟨2, ![288, 6144]⟩
abbrev S288x2048 : Shape := ⟨2, ![288, 2048]⟩
abbrev S72x2048 : Shape := ⟨2, ![72, 2048]⟩
abbrev S576x256 : Shape := ⟨2, ![576, 256]⟩
abbrev S20x192 : Shape := ⟨2, ![20, 192]⟩
abbrev S1x20x192 : Shape := ⟨3, ![1, 20, 192]⟩
abbrev S23x192 : Shape := ⟨2, ![23, 192]⟩
abbrev S1x23x192 : Shape := ⟨3, ![1, 23, 192]⟩
abbrev S9x192 : Shape := ⟨2, ![9, 192]⟩
abbrev S1x9x192 : Shape := ⟨3, ![1, 9, 192]⟩
abbrev S10x192 : Shape := ⟨2, ![10, 192]⟩
abbrev S1x10x192 : Shape := ⟨3, ![1, 10, 192]⟩
abbrev S19x192 : Shape := ⟨2, ![19, 192]⟩
abbrev S1x19x192 : Shape := ⟨3, ![1, 19, 192]⟩
abbrev S13x192 : Shape := ⟨2, ![13, 192]⟩
abbrev S1x13x192 : Shape := ⟨3, ![1, 13, 192]⟩
abbrev S7x192 : Shape := ⟨2, ![7, 192]⟩
abbrev S1x7x192 : Shape := ⟨3, ![1, 7, 192]⟩
abbrev S4x192 : Shape := ⟨2, ![4, 192]⟩
abbrev S1x4x192 : Shape := ⟨3, ![1, 4, 192]⟩
abbrev S3x192 : Shape := ⟨2, ![3, 192]⟩
abbrev S1x3x192 : Shape := ⟨3, ![1, 3, 192]⟩

abbrev nBuf : Space → Nat
  | .hbm => 17
  | .vmem => 10
  | .smem => 0
  | _ => 0

abbrev bufTy : (tb : Table) → Fin (tcTables nBuf tb) → BufTy
  | .hbm, ⟨0, _⟩ => ⟨S64x3x384x384, .f32⟩
  | .hbm, ⟨1, _⟩ => ⟨S768x192, .f32⟩
  | .hbm, ⟨2, _⟩ => ⟨S192, .f32⟩
  | .hbm, ⟨3, _⟩ => ⟨S384x384, .bf16⟩
  | .hbm, ⟨4, _⟩ => ⟨S16x16x3x192, .f32⟩
  | .hbm, ⟨5, _⟩ => ⟨S3x16x16x192, .f32⟩
  | .hbm, ⟨6, _⟩ => ⟨S48x16x192, .f32⟩
  | .hbm, ⟨7, _⟩ => ⟨S_, .i32⟩
  | .hbm, ⟨8, _⟩ => ⟨S_, .f32⟩
  | .hbm, ⟨9, _⟩ => ⟨S48x16x256, .f32⟩
  | .hbm, ⟨10, _⟩ => ⟨S48x16x256, .bf16⟩
  | .hbm, ⟨11, _⟩ => ⟨S_, .i32⟩
  | .hbm, ⟨12, _⟩ => ⟨S_, .f32⟩
  | .hbm, ⟨13, _⟩ => ⟨S256, .f32⟩
  | .hbm, ⟨14, _⟩ => ⟨S1x256, .f32⟩
  | .hbm, ⟨15, _⟩ => ⟨S64x474x192, .f32⟩
  | .hbm, ⟨16, _⟩ => ⟨S64x58x192, .f32⟩
  | .local _ .vmem, ⟨0, _⟩ => ⟨S4x3x384x384, .f32⟩
  | .local _ .vmem, ⟨1, _⟩ => ⟨S4x3x384x384, .f32⟩
  | .local _ .vmem, ⟨2, _⟩ => ⟨S48x16x256, .bf16⟩
  | .local _ .vmem, ⟨3, _⟩ => ⟨S384x384, .bf16⟩
  | .local _ .vmem, ⟨4, _⟩ => ⟨S1x256, .f32⟩
  | .local _ .vmem, ⟨5, _⟩ => ⟨S4x474x192, .f32⟩
  | .local _ .vmem, ⟨6, _⟩ => ⟨S4x474x192, .f32⟩
  | .local _ .vmem, ⟨7, _⟩ => ⟨S4x58x192, .f32⟩
  | .local _ .vmem, ⟨8, _⟩ => ⟨S4x58x192, .f32⟩
  | .local _ .vmem, ⟨9, _⟩ => ⟨S6144x2048, .bf16⟩
  | _, _ => ⟨S64x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x16x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x474x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x58x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x3x384x384 : Shape := ⟨4, ![64, 3, 384, 384]⟩
abbrev S768x192 : Shape := ⟨2, ![768, 192]⟩
abbrev S192 : Shape := ⟨1, ![192]⟩
abbrev S474 : Shape := ⟨1, ![474]⟩
abbrev S20 : Shape := ⟨1, ![20]⟩
abbrev S6 : Shape := ⟨1, ![6]⟩
abbrev S12 : Shape := ⟨1, ![12]⟩
abbrev S64x3x24x16x24x16 : Shape := ⟨6, ![64, 3, 24, 16, 24, 16]⟩
abbrev S64x24x24x16x16x3 : Shape := ⟨6, ![64, 24, 24, 16, 16, 3]⟩
abbrev S64x576x768 : Shape := ⟨3, ![64, 576, 768]⟩
abbrev S64x576x192 : Shape := ⟨3, ![64, 576, 192]⟩
abbrev S1x1x192 : Shape := ⟨3, ![1, 1, 192]⟩
abbrev S_ : Shape := ⟨0, ![]⟩
abbrev S474x1 : Shape := ⟨2, ![474, 1]⟩
abbrev S1 : Shape := ⟨1, ![1]⟩
abbrev S1x1 : Shape := ⟨2, ![1, 1]⟩
abbrev S64x474x192 : Shape := ⟨3, ![64, 474, 192]⟩
abbrev S20x1 : Shape := ⟨2, ![20, 1]⟩
abbrev S64x20x192 : Shape := ⟨3, ![64, 20, 192]⟩
abbrev S6x1 : Shape := ⟨2, ![6, 1]⟩
abbrev S64x6x192 : Shape := ⟨3, ![64, 6, 192]⟩
abbrev S12x1 : Shape := ⟨2, ![12, 1]⟩
abbrev S64x12x192 : Shape := ⟨3, ![64, 12, 192]⟩
abbrev S64x58x192 : Shape := ⟨3, ![64, 58, 192]⟩

abbrev nBuf : Space → Nat
  | .hbm => 131
  | .vmem => 0
  | .smem => 0
  | _ => 0

abbrev hbmTy0_0 (i : Nat) : BufTy := match i % 128 with
  | 0 => ⟨S64x3x384x384, .f32⟩
  | 1 => ⟨S768x192, .f32⟩
  | 2 => ⟨S192, .f32⟩
  | 3 => ⟨S474, .i32⟩
  | 4 => ⟨S20, .i32⟩
  | 5 => ⟨S6, .i32⟩
  | 6 => ⟨S12, .i32⟩
  | 7 => ⟨S20, .i32⟩
  | 8 => ⟨S64x3x24x16x24x16, .f32⟩
  | 9 => ⟨S64x24x24x16x16x3, .f32⟩
  | 10 => ⟨S64x576x768, .f32⟩
  | 11 => ⟨S64x576x192, .f32⟩
  | 12 => ⟨S1x1x192, .f32⟩
  | 13 => ⟨S64x576x192, .f32⟩
  | 14 => ⟨S64x576x192, .f32⟩
  | 15 => ⟨S_, .i32⟩
  | 16 => ⟨S474, .i32⟩
  | 17 => ⟨S474, .i1⟩
  | 18 => ⟨S_, .i32⟩
  | 19 => ⟨S474, .i32⟩
  | 20 => ⟨S474, .i32⟩
  | 21 => ⟨S474, .i32⟩
  | 22 => ⟨S474x1, .i32⟩
  | 23 => ⟨S1, .i32⟩
  | 24 => ⟨S_, .i32⟩
  | 25 => ⟨S474x1, .i32⟩
  | 26 => ⟨S474x1, .i1⟩
  | 27 => ⟨S1x1, .i32⟩
  | 28 => ⟨S474x1, .i32⟩
  | 29 => ⟨S474x1, .i1⟩
  | 30 => ⟨S474x1, .i1⟩
  | 31 => ⟨S_, .i1⟩
  | 32 => ⟨S474, .i1⟩
  | 33 => ⟨S64x474x192, .f32⟩
  | 34 => ⟨S64x474x192, .i1⟩
  | 35 => ⟨S_, .f32⟩
  | 36 => ⟨S64x474x192, .f32⟩
  | 37 => ⟨S64x474x192, .f32⟩
  | 38 => ⟨S_, .i32⟩
  | 39 => ⟨S20, .i32⟩
  | 40 => ⟨S20, .i1⟩
  | 41 => ⟨S_, .i32⟩
  | 42 => ⟨S20, .i32⟩
  | 43 => ⟨S20, .i32⟩
  | 44 => ⟨S20, .i32⟩
  | 45 => ⟨S20x1, .i32⟩
  | 46 => ⟨S1, .i32⟩
  | 47 => ⟨S_, .i32⟩
  | 48 => ⟨S20x1, .i32⟩
  | 49 => ⟨S20x1, .i1⟩
  | 50 => ⟨S1x1, .i32⟩
  | 51 => ⟨S20x1, .i32⟩
  | 52 => ⟨S20x1, .i1⟩
  | 53 => ⟨S20x1, .i1⟩
  | 54 => ⟨S_, .i1⟩
  | 55 => ⟨S20, .i1⟩
  | 56 => ⟨S64x20x192, .f32⟩
  | 57 => ⟨S64x20x192, .i1⟩
  | 58 => ⟨S_, .f32⟩
  | 59 => ⟨S64x20x192, .f32⟩
  | 60 => ⟨S64x20x192, .f32⟩
  | 61 => ⟨S_, .i32⟩
  | 62 => ⟨S6, .i32⟩
  | 63 => ⟨S6, .i1⟩
  | 64 => ⟨S_, .i32⟩
  | 65 => ⟨S6, .i32⟩
  | 66 => ⟨S6, .i32⟩
  | 67 => ⟨S6, .i32⟩
  | 68 => ⟨S6x1, .i32⟩
  | 69 => ⟨S1, .i32⟩
  | 70 => ⟨S_, .i32⟩
  | 71 => ⟨S6x1, .i32⟩
  | 72 => ⟨S6x1, .i1⟩
  | 73 => ⟨S1x1, .i32⟩
  | 74 => ⟨S6x1, .i32⟩
  | 75 => ⟨S6x1, .i1⟩
  | 76 => ⟨S6x1, .i1⟩
  | 77 => ⟨S_, .i1⟩
  | 78 => ⟨S6, .i1⟩
  | 79 => ⟨S64x6x192, .f32⟩
  | 80 => ⟨S64x6x192, .i1⟩
  | 81 => ⟨S_, .f32⟩
  | 82 => ⟨S64x6x192, .f32⟩
  | 83 => ⟨S64x6x192, .f32⟩
  | 84 => ⟨S_, .i32⟩
  | 85 => ⟨S12, .i32⟩
  | 86 => ⟨S12, .i1⟩
  | 87 => ⟨S_, .i32⟩
  | 88 => ⟨S12, .i32⟩
  | 89 => ⟨S12, .i32⟩
  | 90 => ⟨S12, .i32⟩
  | 91 => ⟨S12x1, .i32⟩
  | 92 => ⟨S1, .i32⟩
  | 93 => ⟨S_, .i32⟩
  | 94 => ⟨S12x1, .i32⟩
  | 95 => ⟨S12x1, .i1⟩
  | 96 => ⟨S1x1, .i32⟩
  | 97 => ⟨S12x1, .i32⟩
  | 98 => ⟨S12x1, .i1⟩
  | 99 => ⟨S12x1, .i1⟩
  | 100 => ⟨S_, .i1⟩
  | 101 => ⟨S12, .i1⟩
  | 102 => ⟨S64x12x192, .f32⟩
  | 103 => ⟨S64x12x192, .i1⟩
  | 104 => ⟨S_, .f32⟩
  | 105 => ⟨S64x12x192, .f32⟩
  | 106 => ⟨S64x12x192, .f32⟩
  | 107 => ⟨S_, .i32⟩
  | 108 => ⟨S20, .i32⟩
  | 109 => ⟨S20, .i1⟩
  | 110 => ⟨S_, .i32⟩
  | 111 => ⟨S20, .i32⟩
  | 112 => ⟨S20, .i32⟩
  | 113 => ⟨S20, .i32⟩
  | 114 => ⟨S20x1, .i32⟩
  | 115 => ⟨S1, .i32⟩
  | 116 => ⟨S_, .i32⟩
  | 117 => ⟨S20x1, .i32⟩
  | 118 => ⟨S20x1, .i1⟩
  | 119 => ⟨S1x1, .i32⟩
  | 120 => ⟨S20x1, .i32⟩
  | 121 => ⟨S20x1, .i1⟩
  | 122 => ⟨S20x1, .i1⟩
  | 123 => ⟨S_, .i1⟩
  | 124 => ⟨S20, .i1⟩
  | 125 => ⟨S64x20x192, .f32⟩
  | 126 => ⟨S64x20x192, .i1⟩
  | 127 => ⟨S_, .f32⟩
  | _ => ⟨S64x3x384x384, .f32⟩

abbrev hbmTy0_1 (i : Nat) : BufTy := match i % 128 with
  | 0 => ⟨S64x20x192, .f32⟩
  | 1 => ⟨S64x20x192, .f32⟩
  | 2 => ⟨S64x58x192, .f32⟩
  | _ => ⟨S64x3x384x384, .f32⟩

abbrev hbmTy (i : Nat) : BufTy := match i / 128 with
  | 0 => hbmTy0_0 i
  | 1 => hbmTy0_1 i
  | _ => ⟨S64x3x384x384, .f32⟩

abbrev bufTy : (tb : Table) → Fin (tcTables nBuf tb) → BufTy
  | .hbm, ⟨i, _⟩ => hbmTy i
  | _, _ => ⟨S64x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v7 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v8 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v9 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v10 : Ref sig .tc := ⟨.hbm, 106, rfl⟩
abbrev main_call4_c : Ref sig .tc := ⟨.hbm, 107, rfl⟩
abbrev main_call4_v0 : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_c_1 : Ref sig .tc := ⟨.hbm, 115, rfl⟩
abbrev main_call4_c_2 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_3 : Ref sig .tc := ⟨.hbm, 123, rfl⟩
abbrev main_call4_v12 : Ref sig .tc := ⟨.hbm, 124, rfl⟩
abbrev main_call4_v13 : Ref sig .tc := ⟨.hbm, 125, rfl⟩
abbrev main_call4_v14 : Ref sig .tc := ⟨.hbm, 126, rfl⟩
abbrev main_call4_cst : Ref sig .tc := ⟨.hbm, 127, rfl⟩
abbrev main_call4_v15 : Ref sig .tc := ⟨.hbm, 128, rfl⟩
abbrev main_v11 : Ref sig .tc := ⟨.hbm, 129, rfl⟩
abbrev main_v12 : Ref sig .tc := ⟨.hbm, 130, rfl⟩

abbrev nD : Nat := 1
abbrev τ : Topo := Topo.v7x

variable {F : FTy → Type} [FloatOps F]
-- ==== Proof.Body.lean ====
/-
  One grid point of the kernel, written with the image, the tap and the run of rows as parameters: the vectors it computes
  from the blocks it reads, and the list of stores it makes into each result and into the scratch array. The last section
  states that the lists the generated runs name are these.
-/
module

public import proofs.«01_k».proof.Proof.Gen.KernelIdeal.Frame
public import Idealize.ShloMosaic.Lib.ShapeFacts

@[expose] public section

set_option maxRecDepth 16384

noncomputable section

namespace Cert.Proof.Body

open Idealize.ShloMosaic Idealize.ShloMosaic.Tactic Idealize.SL.Sem Cert.KernelIdeal Cert.KernelIdeal.Gen
open Cert.KernelIdeal.Facts₀

variable {F : FTy → Type} [FloatOps F]

/-- A run of consecutive patches: patches `src`, …, `src + ln - 1` of an image go to rows `dst`, …, `dst + ln - 1` of a result
    of `N` rows. -/
structure Run (N : Nat) where
  src : Nat
  dst : Nat
  ln : Nat
  hsrc : src + ln ≤ 576
  hdst : dst + ln ≤ N

/-- The runs of the first result, the last stored first. -/
def ctxRuns : List (Run 474) :=
  [
    ⟨553, 451, 23, by decide, by decide⟩, ⟨545, 444, 7, by decide, by decide⟩, ⟨529, 431, 13, by decide, by decide⟩,
    ⟨521, 424, 7, by decide, by decide⟩, ⟨505, 411, 13, by decide, by decide⟩, ⟨497, 404, 7, by decide, by decide⟩,
    ⟨481, 391, 13, by decide, by decide⟩, ⟨473, 384, 7, by decide, by decide⟩, ⟨457, 371, 13, by decide, by decide⟩,
    ⟨433, 352, 19, by decide, by decide⟩, ⟨409, 333, 19, by decide, by decide⟩, ⟨385, 314, 19, by decide, by decide⟩,
    ⟨361, 295, 19, by decide, by decide⟩, ⟨337, 276, 19, by decide, by decide⟩, ⟨313, 253, 23, by decide, by decide⟩,
    ⟨289, 230, 23, by decide, by decide⟩, ⟨265, 207, 23, by decide, by decide⟩, ⟨241, 184, 23, by decide, by decide⟩,
    ⟨230, 174, 10, by decide, by decide⟩, ⟨217, 165, 9, by decide, by decide⟩, ⟨206, 155, 10, by decide, by decide⟩,
    ⟨193, 146, 9, by decide, by decide⟩, ⟨182, 136, 10, by decide, by decide⟩, ⟨169, 127, 9, by decide, by decide⟩,
    ⟨158, 117, 10, by decide, by decide⟩, ⟨145, 108, 9, by decide, by decide⟩, ⟨134, 98, 10, by decide, by decide⟩,
    ⟨121, 89, 9, by decide, by decide⟩, ⟨97, 66, 23, by decide, by decide⟩, ⟨73, 43, 23, by decide, by decide⟩,
    ⟨49, 20, 23, by decide, by decide⟩, ⟨28, 0, 20, by decide, by decide⟩]

/-- The runs of the second result, the last stored first. -/
def tgtRuns : List (Run 58) :=
  [
    ⟨452, 54, 4, by decide, by decide⟩, ⟨428, 50, 4, by decide, by decide⟩, ⟨404, 46, 4, by decide, by decide⟩,
    ⟨380, 42, 4, by decide, by decide⟩, ⟨356, 38, 4, by decide, by decide⟩, ⟨542, 35, 3, by decide, by decide⟩,
    ⟨518, 32, 3, by decide, by decide⟩, ⟨494, 29, 3, by decide, by decide⟩, ⟨470, 26, 3, by decide, by decide⟩,
    ⟨25, 23, 3, by decide, by decide⟩, ⟨1, 20, 3, by decide, by decide⟩, ⟨226, 16, 4, by decide, by decide⟩,
    ⟨202, 12, 4, by decide, by decide⟩, ⟨178, 8, 4, by decide, by decide⟩, ⟨154, 4, 4, by decide, by decide⟩,
    ⟨130, 0, 4, by decide, by decide⟩]

/-! ## The vectors -/

variable (P : Fin 4 → Fin 3 → Vec F S1x1x384x384 .f32) (pm : Vec F S384x384 .bf16) (wd : Vec F S6144x2048 .bf16)
  (bv : Vec F S1x256 .f32)

/-- One colour plane of one image with its rows permuted: the permutation matrix times the plane. -/
def rowsOf (i : Fin 4) (c : Fin 3) : FVec F S384x384 .bf16 :=
  truncf .bf16 (matmul dot_S384x384_S384x384_S384x384_1_0_0_1_n_n none pm
    (truncf .bf16 (shapeCast S384x384 (P i c) shapeCasts_S1x1x384x384_S384x384) bitsLt_bf16_f32)
    (constant S384x384 .f32 0x00000000#32)) bitsLt_bf16_f32

/-- The 24 rows numbered `p1` within their tile, of plane `c`, each cut into three pieces of 128 pixels; `q = c · 16 + p1`. -/
def tap (i : Fin 4) (q : Fin 48) : FVec F S72x128 .bf16 :=
  shapeCast S72x128 (extractStridedSlice S24x384 ![q.val % 16 * 24, 0] (rowsOf P pm i ⟨q.val / 16, by omega⟩)
    ⟨rfl, fun a => by
      have := q.isLt
      match a with
      | ⟨0, _⟩ => show q.val % 16 * 24 + 24 ≤ 384; omega
      | ⟨1, _⟩ => show 0 + 384 ≤ 384; omega⟩) shapeCasts_S24x384_S72x128

/-- 48 pieces of 128 columns fill 6144 columns. -/
theorem cat_ok : Shape.Concatenates (List.ofFn fun _ : Fin 48 => S72x128) S72x6144 1 := by decide +kernel

/-- The left operand's 72 rows for one image: its 48 taps side by side. -/
def lhs (i : Fin 4) : FVec F S72x6144 .bf16 :=
  concatenate S72x6144 1 (List.ofFn fun q : Fin 48 => (⟨S72x128, tap P pm i q⟩ : (s : Shape) × (s.Idx → Elt F .bf16)))
    (by rw [List.map_ofFn]; exact cat_ok)

/-- The product of the four images' left operands with the block-diagonal weights. -/
def acc : FVec F S288x2048 .f32 :=
  matmul dot_S288x6144_S6144x2048_S288x2048_1_0_0_1_n_n none
    (concatenate S288x6144 0 [⟨S72x6144, lhs P pm 0⟩, ⟨S72x6144, lhs P pm 1⟩, ⟨S72x6144, lhs P pm 2⟩, ⟨S72x6144, lhs P pm 3⟩]
      concatenates_S72x6144_S72x6144_S72x6144_S72x6144_S288x6144_d0) wd (constant S288x2048 .f32 0x00000000#32)

/-- The embeddings of the 576 patches of image `i` (of which the first 192 columns are stored). -/
def emb (i : Fin 4) : FVec F S576x256 .f32 :=
  addf (shapeCast S576x256 (extractStridedSlice S72x2048 ![i.val * 72, 0] (acc P pm wd)
      ⟨rfl, fun a => by
        have := i.isLt
        match a with
        | ⟨0, _⟩ => show i.val * 72 + 72 ≤ 288; omega
        | ⟨1, _⟩ => show 0 + 2048 ≤ 2048; omega⟩) shapeCasts_S72x2048_S576x256)
    (broadcastTo S576x256 (shapeCast S1x256 bv shapeCasts_S1x256_S1x256) broadcasts_S1x256_S576x256)

/-! ## The stores -/

/-- The rows of an image's embeddings that run `r` stores. -/
def rowsAt {N : Nat} (E : FVec F S576x256 .f32) (r : Run N) : FVec F ⟨3, ![1, r.ln, 192]⟩ .f32 :=
  shapeCast ⟨3, ![1, r.ln, 192]⟩ (extractStridedSlice ⟨2, ![r.ln, 192]⟩ ![r.src, 0] E
    ⟨rfl, fun a => by
      have := r.hsrc
      match a with
      | ⟨0, _⟩ => show r.src + r.ln ≤ 576; omega
      | ⟨1, _⟩ => show 0 + 192 ≤ 256; omega⟩) (by
    simp [Shape.ShapeCasts, Shape.numel_rank3, Shape.numel_rank2])

/-- Run `r` of image `i` as a store into a result of `N` rows per image. -/
def piece {N : Nat} (E : Fin 4 → FVec F S576x256 .f32) (i : Fin 4) (r : Run N) :
    View.Piece (Elt F) ⟨3, ![4, N, 192]⟩ .f32 :=
  ⟨Rect.unit ![i.val, r.dst, 0] ![1, r.ln, 192] (fun a => by
      have := i.isLt
      have := r.hdst
      match a with
      | ⟨0, _⟩ => show i.val + 1 ≤ 4; omega
      | ⟨1, _⟩ => show r.dst + r.ln ≤ N; omega
      | ⟨2, _⟩ => show 0 + 192 ≤ 192; omega), rowsAt (E i) r⟩

/-- All the stores into a result, the last first. -/
def pieces {N : Nat} (E : Fin 4 → FVec F S576x256 .f32) (rs : List (Run N)) : List (View.Piece (Elt F) ⟨3, ![4, N, 192]⟩ .f32) :=
  [3, 2, 1, 0].flatMap fun i => rs.map (piece E i)

/-- The rectangle of store `k` lies inside the scratch array. -/
theorem wd_inb (k : Fin 384) (a : Fin S6144x2048.rank) :
    ![(k.val / 8 % 3 * 16 + k.val / 24) * 128 + k.val % 8 * 16, k.val % 8 * 256] a + ![16, 256] a ≤ S6144x2048.size a := by
  have := k.isLt
  match a with
  | ⟨0, _⟩ => show (k.val / 8 % 3 * 16 + k.val / 24) * 128 + k.val % 8 * 16 + 16 ≤ 6144; omega
  | ⟨1, _⟩ => show k.val % 8 * 256 + 256 ≤ 2048; omega

/-- Store `k` into the scratch array: tile row `k / 24`, colour `k / 8 % 3`, diagonal block `k % 8`; `w` gives the weights of a
    tap. -/
def wdPiece (w : Fin 48 → Vec F S1x16x256 .bf16) (k : Fin 384) : View.Piece (Elt F) S6144x2048 .bf16 :=
  ⟨Rect.unit ![(k.val / 8 % 3 * 16 + k.val / 24) * 128 + k.val % 8 * 16, k.val % 8 * 256] ![16, 256] (wd_inb k),
    shapeCast S16x256 (shapeCast S16x256 (w ⟨k.val / 8 % 3 * 16 + k.val / 24, by omega⟩) shapeCasts_S1x16x256_S16x256)
      shapeCasts_S16x256_S16x256⟩

/-- The zero fill of the scratch array. -/
def zeroPiece : View.Piece (Elt F) S6144x2048 .bf16 :=
  ⟨Rect.unit ![0, 0] S6144x2048.size inb_S6144x2048_S6144x2048_0_0, k0_pay1⟩

/-- All the stores into the scratch array, the last first. -/
def wdPieces (w : Fin 48 → Vec F S1x16x256 .bf16) : List (View.Piece (Elt F) S6144x2048 .bf16) :=
  (List.ofFn fun k : Fin 384 => wdPiece w ⟨383 - k.val, by omega⟩) ++ [zeroPiece]

/-! ## The blocks read -/

variable (c : Dev nD) (i : grid0.Coords) (arg1 : Memref sig .tc .vmem S4x3x384x384 .f32) (harg1 : arg1.IsWhole)
  (arg2 : Memref sig .tc .vmem S48x16x256 .bf16) (harg2 : arg2.IsWhole) (arg3 : Memref sig .tc .vmem S384x384 .bf16) (harg3 : arg3.IsWhole)
  (arg4 : Memref sig .tc .vmem S1x256 .f32) (harg4 : arg4.IsWhole) (arg5 : Memref sig .tc .vmem S4x474x192 .f32) (harg5 : arg5.IsWhole)
  (arg6 : Memref sig .tc .vmem S4x58x192 .f32) (harg6 : arg6.IsWhole) (arg7 : Memref sig .tc .vmem S6144x2048 .bf16) (harg7 : arg7.IsWhole)
  (x0 : Vec F S4x3x384x384 .f32) (x1 : Vec F S48x16x256 .bf16) (x2 : Vec F S384x384 .bf16) (x3 : Vec F S1x256 .f32)
  (xs0 : Vec F S6144x2048 .bf16)

/-- Plane `ch` of image `n` as loaded. -/
def plane (n : Fin 4) (ch : Fin 3) : Vec F S1x1x384x384 .f32 :=
  View.readAt (Elt F) arg1.view (Rect.unit (s := S4x3x384x384) ![n.val, ch.val, 0, 0] S1x1x384x384.size (fun a => by
    have := n.isLt
    have := ch.isLt
    match a with
    | ⟨0, _⟩ => show n.val + 1 ≤ 4; omega
    | ⟨1, _⟩ => show ch.val + 1 ≤ 3; omega
    | ⟨2, _⟩ => show 0 + 384 ≤ 384; omega
    | ⟨3, _⟩ => show 0 + 384 ≤ 384; omega)).toLoadRect (harg1.unread x0)

/-- The permutation matrix as loaded. -/
def pmOf : Vec F S384x384 .bf16 :=
  View.readAt (Elt F) arg3.view (Rect.unit ![0, 0] S384x384.size inb_S384x384_S384x384_0_0).toLoadRect (harg3.unread x2)

/-- The bias as loaded. -/
def biasOf : Vec F S1x256 .f32 :=
  View.readAt (Elt F) arg4.view (Rect.unit ![0, 0] S1x256.size inb_S1x256_S1x256_0_0).toLoadRect (harg4.unread x3)

/-- The weights of tap `q` as loaded. -/
def weightsOf (q : Fin 48) : Vec F S1x16x256 .bf16 :=
  View.readAt (Elt F) arg2.view (Rect.unit (s := S48x16x256) ![q.val, 0, 0] S1x16x256.size (fun a => by
    have := q.isLt
    match a with
    | ⟨0, _⟩ => show q.val + 1 ≤ 48; omega
    | ⟨1, _⟩ => show 0 + 16 ≤ 16; omega
    | ⟨2, _⟩ => show 0 + 256 ≤ 256; omega)).toLoadRect (harg2.unread x1)

/-- The scratch array as loaded at a point that does not store into it. -/
def wdOf : Vec F S6144x2048 .bf16 :=
  View.readAt (Elt F) arg7.view (Rect.unit ![0, 0] S6144x2048.size inb_S6144x2048_S6144x2048_0_0).toLoadRect (harg7.unread xs0)

/-- The scratch array as loaded after the first point's stores into it. -/
def wdOfA : Vec F S6144x2048 .bf16 :=
  arg7.view.readCov (wdPieces (weightsOf arg2 harg2 x1)) (Rect.unit ![0, 0] S6144x2048.size inb_S6144x2048_S6144x2048_0_0).toLoadRect

/-- The embeddings of the block's four images at a point that finds the weights in the scratch array. -/
def embB : Fin 4 → FVec F S576x256 .f32 :=
  emb (plane arg1 harg1 x0) (pmOf arg3 harg3 x2) (wdOf arg7 harg7 xs0) (biasOf arg4 harg4 x3)

/-- The embeddings of the block's four images at the first point. -/
def embA : Fin 4 → FVec F S576x256 .f32 :=
  emb (plane arg1 harg1 x0) (pmOf arg3 harg3 x2) (wdOfA arg2 harg2 arg7 x1) (biasOf arg4 harg4 x3)

/-! ## The generated lists -/

/-- The first result's stores at a point other than the first. -/
theorem listB4 (hc0 : ¬cond0_0 i) :
    (kernelRun0_B c i arg1 harg1 arg2 harg2 arg3 harg3 arg4 harg4 arg5 harg5 arg6 harg6 arg7 harg7 hc0 x0 x1 x2 x3 xs0).1
      = pieces (embB arg1 harg1 arg3 harg3 arg4 harg4 arg7 harg7 x0 x2 x3 xs0) ctxRuns := by sl_kernel_rfl

/-- The second result's stores at a point other than the first. -/
theorem listB5 (hc0 : ¬cond0_0 i) :
    (kernelRun0_B c i arg1 harg1 arg2 harg2 arg3 harg3 arg4 harg4 arg5 harg5 arg6 harg6 arg7 harg7 hc0 x0 x1 x2 x3 xs0).2.1
      = pieces (embB arg1 harg1 arg3 harg3 arg4 harg4 arg7 harg7 x0 x2 x3 xs0) tgtRuns := by sl_kernel_rfl

/-- The first result's stores at the first point. -/
theorem listA4 (hc0 : cond0_0 i) :
    (kernelRun0_A c i arg1 harg1 arg2 harg2 arg3 harg3 arg4 harg4 arg5 harg5 arg6 harg6 arg7 harg7 hc0 x0 x1 x2 x3).1
      = pieces (embA arg1 harg1 arg2 harg2 arg3 harg3 arg4 harg4 arg7 x0 x1 x2 x3) ctxRuns := by sl_kernel_rfl

/-- The second result's stores at the first point. -/
theorem listA5 (hc0 : cond0_0 i) :
    (kernelRun0_A c i arg1 harg1 arg2 harg2 arg3 harg3 arg4 harg4 arg5 harg5 arg6 harg6 arg7 harg7 hc0 x0 x1 x2 x3).2.1
      = pieces (embA arg1 harg1 arg2 harg2 arg3 harg3 arg4 harg4 arg7 x0 x1 x2 x3) tgtRuns := by sl_kernel_rfl

/-- The scratch array's stores at the first point. -/
theorem listAS (hc0 : cond0_0 i) :
    (kernelRun0_A c i arg1 harg1 arg2 harg2 arg3 harg3 arg4 harg4 arg5 harg5 arg6 harg6 arg7 harg7 hc0 x0 x1 x2 x3).2.2.1
      = wdPieces (weightsOf arg2 harg2 x1) := by sl_kernel_rfl

end Cert.Proof.Body

end
-- ==== Proof.Block.lean ====
/-
  What one grid point computes over the exact numbers: each vector of `Body` read at an index, and the embeddings of the
  block's four images as the sum the specification states.
-/
module

public import proofs.«01_k».proof.Proof.Body
public import Idealize.ShloMosaic.Lib.Pointwise
public import Idealize.ShloMosaic.Lib.ValueIdx
public import Idealize.ShloMosaic.Lib.Pipeline.Value
public import Idealize.ShloMosaic.PureOps.Ideal

@[expose] public section

set_option maxRecDepth 16384

noncomputable section

namespace Cert.Proof.Block

open Idealize.ShloMosaic Idealize.SL.Sem Cert.KernelIdeal Cert.KernelIdeal.Gen Cert.Proof.Body
open Cert.KernelIdeal.Facts₀

variable (P : Fin 4 → Fin 3 → Vec Ideal S1x1x384x384 .f32) (pm : Vec Ideal S384x384 .bf16)
  (wd : Vec Ideal S6144x2048 .bf16) (bv : Vec Ideal S1x256 .f32)

/-- The matrix is the permutation that brings row `h · 16 + p1` of a plane to row `p1 · 24 + h`. -/
def IsPerm : Prop := ∀ r k : Fin 384, (pm (ix2 r k) : EReal) = if k.val = r.val % 24 * 16 + r.val / 24 then 1 else 0

/-- A permuted plane, read at an index. -/
theorem rowsOf_apply (hpm : IsPerm pm) (i : Fin 4) (c : Fin 3) (r w : Fin 384) :
    (rowsOf P pm i c (ix2 r w) : EReal) = P i c (ix4 0 0 ⟨r.val % 24 * 16 + r.val / 24, by omega⟩ w) := by
  unfold rowsOf
  pointwise
  rw [Finset.sum_eq_single (⟨r.val % 24 * 16 + r.val / 24, by omega⟩ : Fin 384)]
  · rw [hpm]; simp
  · intro k _ hk
    rw [hpm, if_neg (fun h => hk (Fin.ext h)), zero_mul]
  · intro h; exact absurd (Finset.mem_univ _) h

/-- A tap, read at an index. -/
theorem tap_apply (i : Fin 4) (q : Fin 48) (r : Fin 72) (w : Fin 128) :
    tap P pm i q (ix2 r w) = rowsOf P pm i ⟨q.val / 16, by omega⟩
      (ix2 ⟨q.val % 16 * 24 + r.val / 3, by omega⟩ ⟨r.val % 3 * 128 + w.val, by omega⟩) := by
  unfold tap
  pointwise

/-- The left operand's rows for one image, read at an index. -/
theorem lhs_apply (hpm : IsPerm pm) (i : Fin 4) (r : Fin 72) (k : Fin 6144) :
    (lhs P pm i (ix2 r k) : EReal) = P i ⟨k.val / 2048, by omega⟩
      (ix4 0 0 ⟨r.val / 3 * 16 + k.val / 128 % 16, by omega⟩ ⟨r.val % 3 * 128 + k.val % 128, by omega⟩) := by
  unfold lhs
  rw [concatenate_ofFn_apply (t := S72x6144) (s₁ := S72x128) (1 : Fin 2) (fun q => tap P pm i q) _ rfl 128 rfl (ix2 r k) ⟨k.val / 128, by omega⟩ rfl
    (ix2 r ⟨k.val % 128, by omega⟩) rfl (fun b hb => by
      match b with
      | ⟨0, _⟩ => rfl
      | ⟨1, _⟩ => exact absurd rfl hb)]
  rw [tap_apply, rowsOf_apply P pm hpm]
  congr 1
  · congr 1
    show k.val / 128 / 16 = k.val / 2048
    omega
  · congr 1
    exact Fin.ext (by
      show (k.val / 128 % 16 * 24 + r.val / 3) % 24 * 16 + (k.val / 128 % 16 * 24 + r.val / 3) / 24 = r.val / 3 * 16 + k.val / 128 % 16
      omega)

/-- The product, read at an index of image `i`'s rows. -/
theorem acc_apply (i : Fin 4) (r : Fin 72) (col : Fin 2048) :
    (acc P pm wd (ix2 ⟨i.val * 72 + r.val, by omega⟩ col) : EReal)
      = ∑ k : Fin 6144, (lhs P pm i (ix2 r k) : EReal) * wd (ix2 k col) := by
  unfold acc
  pointwise
  refine Finset.sum_congr rfl fun x _ => ?_
  congr 1
  match i with
  | ⟨0, _⟩ =>
    rw [dif_pos (by show 0 * 72 + r.val < 72; omega)]
    exact congrArg (fun y => lhs P pm 0 (ix2 y x)) (Fin.ext (by show 0 * 72 + r.val = r.val; omega))
  | ⟨1, _⟩ =>
    rw [dif_neg (by show ¬1 * 72 + r.val < 72; omega), dif_pos (by show 1 * 72 + r.val - 72 < 72; omega)]
    exact congrArg (fun y => lhs P pm 1 (ix2 y x)) (Fin.ext (by show 1 * 72 + r.val - 72 = r.val; omega))
  | ⟨2, _⟩ =>
    rw [dif_neg (by show ¬2 * 72 + r.val < 72; omega), dif_neg (by show ¬2 * 72 + r.val - 72 < 72; omega),
      dif_pos (by show 2 * 72 + r.val - 72 - 72 < 72; omega)]
    exact congrArg (fun y => lhs P pm 2 (ix2 y x)) (Fin.ext (by show 2 * 72 + r.val - 72 - 72 = r.val; omega))
  | ⟨3, _⟩ =>
    rw [dif_neg (by show ¬3 * 72 + r.val < 72; omega), dif_neg (by show ¬3 * 72 + r.val - 72 < 72; omega),
      dif_neg (by show ¬3 * 72 + r.val - 72 - 72 < 72; omega)]
    exact congrArg (fun y => lhs P pm 3 (ix2 y x)) (Fin.ext (by show 3 * 72 + r.val - 72 - 72 - 72 = r.val; omega))

/-- The embeddings of an image, read at an index. -/
theorem emb_apply (i : Fin 4) (p : Fin 576) (e : Fin 256) :
    (emb P pm wd bv i (ix2 p e) : EReal)
      = acc P pm wd (ix2 ⟨i.val * 72 + p.val / 8, by omega⟩ ⟨p.val % 8 * 256 + e.val, by omega⟩) + bv (ix2 0 e) := by
  unfold emb
  pointwise

/-- Where the 768 weights of column block `w2` lie among the 6144 rows of the block-diagonal array. -/
def place (w2 : Fin 8) (k : Fin 768) : Fin 6144 :=
  ⟨(k.val % 3 * 16 + k.val / 48) * 128 + w2.val * 16 + k.val / 3 % 16, by omega⟩

/-- The scratch array's contents: column block `w2` holds the weights at its 768 places and zero elsewhere. -/
def IsDiag (W : (⟨2, ![768, 192]⟩ : Shape).Idx → EReal) : Prop :=
  (∀ (w2 : Fin 8) (k : Fin 768) (e : Fin 192),
      (wd (ix2 (place w2 k) ⟨w2.val * 256 + e.val, by omega⟩) : EReal) = W (ix2 k e))
    ∧ ∀ (w2 : Fin 8) (k : Fin 6144) (e : Fin 192), k.val % 128 / 16 ≠ w2.val →
      (wd (ix2 k ⟨w2.val * 256 + e.val, by omega⟩) : EReal) = 0

/-- A weight's number in digits: tile row, tile column, colour. -/
theorem digits (k : Fin 768) : k.val = (k.val / 48 * 16 + k.val / 3 % 16) * 3 + k.val % 3 := by omega

/-- The digits of a number put together from digits. -/
theorem undigits (c p1 p2 : Nat) (hc : c < 3) (h1 : p1 < 16) (h2 : p2 < 16) :
    ((p1 * 16 + p2) * 3 + c) % 3 = c ∧ ((p1 * 16 + p2) * 3 + c) / 48 = p1 ∧ ((p1 * 16 + p2) * 3 + c) / 3 % 16 = p2 := by
  have h3 : ((p1 * 16 + p2) * 3 + c) / 3 = p1 * 16 + p2 := by omega
  refine ⟨by omega, by omega, by rw [h3]; omega⟩

/-- The digits of a place among the 6144 rows. -/
theorem place_col (c p1 w p2 : Nat) (h1 : p1 < 16) (hw : w < 8) (h2 : p2 < 16) :
    ((c * 16 + p1) * 128 + w * 16 + p2) / 2048 = c ∧ ((c * 16 + p1) * 128 + w * 16 + p2) / 128 % 16 = p1
      ∧ ((c * 16 + p1) * 128 + w * 16 + p2) % 128 = w * 16 + p2 := by
  have h3 : ((c * 16 + p1) * 128 + w * 16 + p2) / 128 = c * 16 + p1 := by omega
  refine ⟨by omega, by rw [h3]; omega, by omega⟩

/-- A weight's digits from its place. -/
theorem place_digits (w2 : Fin 8) (k : Fin 768) :
    (place w2 k).val / 2048 = k.val % 3 ∧ (place w2 k).val / 128 % 16 = k.val / 48 ∧ (place w2 k).val % 16 = k.val / 3 % 16 := by
  have h := place_col (k.val % 3) (k.val / 48) w2.val (k.val / 3 % 16) (by omega) (by omega) (by omega)
  refine ⟨h.1, h.2.1, ?_⟩
  have e : (place w2 k).val % 16 = (place w2 k).val % 128 % 16 := by omega
  rw [e, show (place w2 k).val % 128 = _ from h.2.2]
  omega

/-- The weight a row of the block-diagonal array belongs to. -/
def weightAt (k : Fin 6144) : Fin 768 :=
  ⟨(k.val / 128 % 16 * 16 + k.val % 16) * 3 + k.val / 2048, by
    have h1 : k.val / 128 % 16 < 16 := Nat.mod_lt _ (by decide)
    have h2 : k.val % 16 < 16 := Nat.mod_lt _ (by decide)
    have h3 : k.val / 2048 < 3 := by omega
    generalize k.val / 128 % 16 = a at *
    generalize k.val % 16 = b at *
    generalize k.val / 2048 = c at *
    omega⟩

/-- A row inside column block `w2`'s part is the place of its weight. -/
theorem place_weightAt (w2 : Fin 8) (k : Fin 6144) (h : k.val % 128 / 16 = w2.val) : place w2 (weightAt k) = k := by
  have h1 := undigits (k.val / 2048) (k.val / 128 % 16) (k.val % 16) (by omega) (by omega) (by omega)
  refine Fin.ext ?_
  show (((k.val / 128 % 16 * 16 + k.val % 16) * 3 + k.val / 2048) % 3 * 16
      + ((k.val / 128 % 16 * 16 + k.val % 16) * 3 + k.val / 2048) / 48) * 128 + w2.val * 16
      + ((k.val / 128 % 16 * 16 + k.val % 16) * 3 + k.val / 2048) / 3 % 16 = k.val
  rw [h1.1, h1.2.1, h1.2.2, ← h]
  clear h1 h
  have e1 : k.val / 2048 = k.val / 128 / 16 := by omega
  have e2 : k.val = k.val / 128 * 128 + k.val % 128 := by omega
  have e3 : k.val % 16 = k.val % 128 % 16 := by omega
  rw [e1, e3]
  generalize k.val % 128 = m at *
  generalize k.val / 128 = q at *
  omega

/-- A sum whose terms vanish outside the range of an injective map is the sum over the map's domain. -/
theorem _root_.Function.Injective.sum_place {α β : Type} [Fintype α] [Fintype β] {g : α → β} (hg : Function.Injective g)
    (f : β → EReal) (hf : ∀ b, b ∉ Set.range g → f b = 0) : ∑ a, f (g a) = ∑ b, f b :=
  Finset.sum_of_injOn g hg.injOn (fun _ _ => by simp) (fun b _ hb => hf b (by simpa using hb)) (fun _ _ => rfl)

/-- A sum over the 6144 rows of a column of the block-diagonal array is the sum over its 768 weights. -/
theorem sum_place (f : Fin 6144 → EReal) (w2 : Fin 8) (hf : ∀ k : Fin 6144, k.val % 128 / 16 ≠ w2.val → f k = 0) :
    ∑ k : Fin 6144, f k = ∑ k : Fin 768, f (place w2 k) := by
  have inj : Function.Injective (place w2) := by
    intro a b h
    have ha := place_digits w2 a
    have hb := place_digits w2 b
    rw [h] at ha
    exact Fin.ext (by rw [digits a, digits b, ← ha.1, ← ha.2.1, ← ha.2.2, hb.1, hb.2.1, hb.2.2])
  have img : ∀ k : Fin 6144, k ∉ Set.range (place w2) → f k = 0 := fun k hk =>
    hf k fun h => hk ⟨weightAt k, place_weightAt w2 k h⟩
  exact (inj.sum_place f img).symm

/-- The embeddings of image `i` of the block, in the specification's order: the pixels of patch `p` times the weights, plus the
    bias. -/
theorem emb_eq (hpm : IsPerm pm) (W : (⟨2, ![768, 192]⟩ : Shape).Idx → EReal) (hwd : IsDiag wd W) (i : Fin 4) (p : Fin 576)
    (e : Fin 192) :
    (emb P pm wd bv i (ix2 p ⟨e.val, by omega⟩) : EReal)
      = (∑ k : Fin 768, (P i ⟨k.val % 3, by omega⟩ (ix4 0 0 ⟨p.val / 24 * 16 + k.val / 48, by omega⟩
          ⟨p.val % 24 * 16 + k.val / 3 % 16, by omega⟩) : EReal) * W (ix2 k e)) + bv (ix2 0 ⟨e.val, by omega⟩) := by
  rw [emb_apply, acc_apply P pm wd i ⟨p.val / 8, by omega⟩ ⟨p.val % 8 * 256 + e.val, by omega⟩]
  congr 1
  rw [sum_place _ ⟨p.val % 8, by omega⟩ (fun k hk => by rw [hwd.2 ⟨p.val % 8, by omega⟩ k e hk, mul_zero])]
  refine Finset.sum_congr rfl fun k _ => ?_
  have hd := place_col (k.val % 3) (k.val / 48) (p.val % 8) (k.val / 3 % 16) (by omega) (by omega) (by omega)
  rw [hwd.1 ⟨p.val % 8, by omega⟩ k e, lhs_apply P pm hpm]
  congr 1
  congr 1
  · congr 1
    exact hd.1
  · congr 1
    · refine Fin.ext ?_
      show p.val / 8 / 3 * 16 + ((k.val % 3 * 16 + k.val / 48) * 128 + p.val % 8 * 16 + k.val / 3 % 16) / 128 % 16 = _
      rw [hd.2.1]
      show p.val / 8 / 3 * 16 + k.val / 48 = p.val / 24 * 16 + k.val / 48
      omega
    · refine Fin.ext ?_
      show p.val / 8 % 3 * 128 + ((k.val % 3 * 16 + k.val / 48) * 128 + p.val % 8 * 16 + k.val / 3 % 16) % 128 = _
      rw [hd.2.2]
      show p.val / 8 % 3 * 128 + (p.val % 8 * 16 + k.val / 3 % 16) = p.val % 24 * 16 + k.val / 3 % 16
      omega

end Cert.Proof.Block

end
-- ==== Proof.Literal.lean ====
/-
  The literal the kernel multiplies the image rows by, read off its digit tree: row `r` has a one at column
  `r % 24 * 16 + r / 24` and zeros everywhere else.
-/
module

public import proofs.«01_k».proof.Proof.Block

@[expose] public section

set_option maxRecDepth 16384

noncomputable section

namespace Cert.Proof.Literal

open Idealize.ShloMosaic Cert.KernelIdeal

/-- The bits at place `d` of the `j`-th run of 128 entries (three runs a row). -/
def entry (j d : ℕ) : BitVec 16 :=
  if d + j % 3 * 128 = j / 3 % 24 * 16 + j / 3 / 24 then 0x3F80#16 else 0#16

/-- Run `j` of the tree, its entries computed. -/
def leaf (j n : ℕ) : BitVec 16 := match n with
  | 0 => entry j 0
  | 1 => entry j 1
  | 2 => entry j 2
  | 3 => entry j 3
  | 4 => entry j 4
  | 5 => entry j 5
  | 6 => entry j 6
  | 7 => entry j 7
  | 8 => entry j 8
  | 9 => entry j 9
  | 10 => entry j 10
  | 11 => entry j 11
  | 12 => entry j 12
  | 13 => entry j 13
  | 14 => entry j 14
  | 15 => entry j 15
  | 16 => entry j 16
  | 17 => entry j 17
  | 18 => entry j 18
  | 19 => entry j 19
  | 20 => entry j 20
  | 21 => entry j 21
  | 22 => entry j 22
  | 23 => entry j 23
  | 24 => entry j 24
  | 25 => entry j 25
  | 26 => entry j 26
  | 27 => entry j 27
  | 28 => entry j 28
  | 29 => entry j 29
  | 30 => entry j 30
  | 31 => entry j 31
  | 32 => entry j 32
  | 33 => entry j 33
  | 34 => entry j 34
  | 35 => entry j 35
  | 36 => entry j 36
  | 37 => entry j 37
  | 38 => entry j 38
  | 39 => entry j 39
  | 40 => entry j 40
  | 41 => entry j 41
  | 42 => entry j 42
  | 43 => entry j 43
  | 44 => entry j 44
  | 45 => entry j 45
  | 46 => entry j 46
  | 47 => entry j 47
  | 48 => entry j 48
  | 49 => entry j 49
  | 50 => entry j 50
  | 51 => entry j 51
  | 52 => entry j 52
  | 53 => entry j 53
  | 54 => entry j 54
  | 55 => entry j 55
  | 56 => entry j 56
  | 57 => entry j 57
  | 58 => entry j 58
  | 59 => entry j 59
  | 60 => entry j 60
  | 61 => entry j 61
  | 62 => entry j 62
  | 63 => entry j 63
  | 64 => entry j 64
  | 65 => entry j 65
  | 66 => entry j 66
  | 67 => entry j 67
  | 68 => entry j 68
  | 69 => entry j 69
  | 70 => entry j 70
  | 71 => entry j 71
  | 72 => entry j 72
  | 73 => entry j 73
  | 74 => entry j 74
  | 75 => entry j 75
  | 76 => entry j 76
  | 77 => entry j 77
  | 78 => entry j 78
  | 79 => entry j 79
  | 80 => entry j 80
  | 81 => entry j 81
  | 82 => entry j 82
  | 83 => entry j 83
  | 84 => entry j 84
  | 85 => entry j 85
  | 86 => entry j 86
  | 87 => entry j 87
  | 88 => entry j 88
  | 89 => entry j 89
  | 90 => entry j 90
  | 91 => entry j 91
  | 92 => entry j 92
  | 93 => entry j 93
  | 94 => entry j 94
  | 95 => entry j 95
  | 96 => entry j 96
  | 97 => entry j 97
  | 98 => entry j 98
  | 99 => entry j 99
  | 100 => entry j 100
  | 101 => entry j 101
  | 102 => entry j 102
  | 103 => entry j 103
  | 104 => entry j 104
  | 105 => entry j 105
  | 106 => entry j 106
  | 107 => entry j 107
  | 108 => entry j 108
  | 109 => entry j 109
  | 110 => entry j 110
  | 111 => entry j 111
  | 112 => entry j 112
  | 113 => entry j 113
  | 114 => entry j 114
  | 115 => entry j 115
  | 116 => entry j 116
  | 117 => entry j 117
  | 118 => entry j 118
  | 119 => entry j 119
  | 120 => entry j 120
  | 121 => entry j 121
  | 122 => entry j 122
  | 123 => entry j 123
  | 124 => entry j 124
  | 125 => entry j 125
  | 126 => entry j 126
  | 127 => entry j 127
  | _ => 0#16

/-- Block `k` of 128 runs of the tree. -/
def block (k i n : ℕ) : BitVec 16 := match n with
  | 0 => leaf (k * 128 + 0) (i % 128)
  | 1 => leaf (k * 128 + 1) (i % 128)
  | 2 => leaf (k * 128 + 2) (i % 128)
  | 3 => leaf (k * 128 + 3) (i % 128)
  | 4 => leaf (k * 128 + 4) (i % 128)
  | 5 => leaf (k * 128 + 5) (i % 128)
  | 6 => leaf (k * 128 + 6) (i % 128)
  | 7 => leaf (k * 128 + 7) (i % 128)
  | 8 => leaf (k * 128 + 8) (i % 128)
  | 9 => leaf (k * 128 + 9) (i % 128)
  | 10 => leaf (k * 128 + 10) (i % 128)
  | 11 => leaf (k * 128 + 11) (i % 128)
  | 12 => leaf (k * 128 + 12) (i % 128)
  | 13 => leaf (k * 128 + 13) (i % 128)
  | 14 => leaf (k * 128 + 14) (i % 128)
  | 15 => leaf (k * 128 + 15) (i % 128)
  | 16 => leaf (k * 128 + 16) (i % 128)
  | 17 => leaf (k * 128 + 17) (i % 128)
  | 18 => leaf (k * 128 + 18) (i % 128)
  | 19 => leaf (k * 128 + 19) (i % 128)
  | 20 => leaf (k * 128 + 20) (i % 128)
  | 21 => leaf (k * 128 + 21) (i % 128)
  | 22 => leaf (k * 128 + 22) (i % 128)
  | 23 => leaf (k * 128 + 23) (i % 128)
  | 24 => leaf (k * 128 + 24) (i % 128)
  | 25 => leaf (k * 128 + 25) (i % 128)
  | 26 => leaf (k * 128 + 26) (i % 128)
  | 27 => leaf (k * 128 + 27) (i % 128)
  | 28 => leaf (k * 128 + 28) (i % 128)
  | 29 => leaf (k * 128 + 29) (i % 128)
  | 30 => leaf (k * 128 + 30) (i % 128)
  | 31 => leaf (k * 128 + 31) (i % 128)
  | 32 => leaf (k * 128 + 32) (i % 128)
  | 33 => leaf (k * 128 + 33) (i % 128)
  | 34 => leaf (k * 128 + 34) (i % 128)
  | 35 => leaf (k * 128 + 35) (i % 128)
  | 36 => leaf (k * 128 + 36) (i % 128)
  | 37 => leaf (k * 128 + 37) (i % 128)
  | 38 => leaf (k * 128 + 38) (i % 128)
  | 39 => leaf (k * 128 + 39) (i % 128)
  | 40 => leaf (k * 128 + 40) (i % 128)
  | 41 => leaf (k * 128 + 41) (i % 128)
  | 42 => leaf (k * 128 + 42) (i % 128)
  | 43 => leaf (k * 128 + 43) (i % 128)
  | 44 => leaf (k * 128 + 44) (i % 128)
  | 45 => leaf (k * 128 + 45) (i % 128)
  | 46 => leaf (k * 128 + 46) (i % 128)
  | 47 => leaf (k * 128 + 47) (i % 128)
  | 48 => leaf (k * 128 + 48) (i % 128)
  | 49 => leaf (k * 128 + 49) (i % 128)
  | 50 => leaf (k * 128 + 50) (i % 128)
  | 51 => leaf (k * 128 + 51) (i % 128)
  | 52 => leaf (k * 128 + 52) (i % 128)
  | 53 => leaf (k * 128 + 53) (i % 128)
  | 54 => leaf (k * 128 + 54) (i % 128)
  | 55 => leaf (k * 128 + 55) (i % 128)
  | 56 => leaf (k * 128 + 56) (i % 128)
  | 57 => leaf (k * 128 + 57) (i % 128)
  | 58 => leaf (k * 128 + 58) (i % 128)
  | 59 => leaf (k * 128 + 59) (i % 128)
  | 60 => leaf (k * 128 + 60) (i % 128)
  | 61 => leaf (k * 128 + 61) (i % 128)
  | 62 => leaf (k * 128 + 62) (i % 128)
  | 63 => leaf (k * 128 + 63) (i % 128)
  | 64 => leaf (k * 128 + 64) (i % 128)
  | 65 => leaf (k * 128 + 65) (i % 128)
  | 66 => leaf (k * 128 + 66) (i % 128)
  | 67 => leaf (k * 128 + 67) (i % 128)
  | 68 => leaf (k * 128 + 68) (i % 128)
  | 69 => leaf (k * 128 + 69) (i % 128)
  | 70 => leaf (k * 128 + 70) (i % 128)
  | 71 => leaf (k * 128 + 71) (i % 128)
  | 72 => leaf (k * 128 + 72) (i % 128)
  | 73 => leaf (k * 128 + 73) (i % 128)
  | 74 => leaf (k * 128 + 74) (i % 128)
  | 75 => leaf (k * 128 + 75) (i % 128)
  | 76 => leaf (k * 128 + 76) (i % 128)
  | 77 => leaf (k * 128 + 77) (i % 128)
  | 78 => leaf (k * 128 + 78) (i % 128)
  | 79 => leaf (k * 128 + 79) (i % 128)
  | 80 => leaf (k * 128 + 80) (i % 128)
  | 81 => leaf (k * 128 + 81) (i % 128)
  | 82 => leaf (k * 128 + 82) (i % 128)
  | 83 => leaf (k * 128 + 83) (i % 128)
  | 84 => leaf (k * 128 + 84) (i % 128)
  | 85 => leaf (k * 128 + 85) (i % 128)
  | 86 => leaf (k * 128 + 86) (i % 128)
  | 87 => leaf (k * 128 + 87) (i % 128)
  | 88 => leaf (k * 128 + 88) (i % 128)
  | 89 => leaf (k * 128 + 89) (i % 128)
  | 90 => leaf (k * 128 + 90) (i % 128)
  | 91 => leaf (k * 128 + 91) (i % 128)
  | 92 => leaf (k * 128 + 92) (i % 128)
  | 93 => leaf (k * 128 + 93) (i % 128)
  | 94 => leaf (k * 128 + 94) (i % 128)
  | 95 => leaf (k * 128 + 95) (i % 128)
  | 96 => leaf (k * 128 + 96) (i % 128)
  | 97 => leaf (k * 128 + 97) (i % 128)
  | 98 => leaf (k * 128 + 98) (i % 128)
  | 99 => leaf (k * 128 + 99) (i % 128)
  | 100 => leaf (k * 128 + 100) (i % 128)
  | 101 => leaf (k * 128 + 101) (i % 128)
  | 102 => leaf (k * 128 + 102) (i % 128)
  | 103 => leaf (k * 128 + 103) (i % 128)
  | 104 => leaf (k * 128 + 104) (i % 128)
  | 105 => leaf (k * 128 + 105) (i % 128)
  | 106 => leaf (k * 128 + 106) (i % 128)
  | 107 => leaf (k * 128 + 107) (i % 128)
  | 108 => leaf (k * 128 + 108) (i % 128)
  | 109 => leaf (k * 128 + 109) (i % 128)
  | 110 => leaf (k * 128 + 110) (i % 128)
  | 111 => leaf (k * 128 + 111) (i % 128)
  | 112 => leaf (k * 128 + 112) (i % 128)
  | 113 => leaf (k * 128 + 113) (i % 128)
  | 114 => leaf (k * 128 + 114) (i % 128)
  | 115 => leaf (k * 128 + 115) (i % 128)
  | 116 => leaf (k * 128 + 116) (i % 128)
  | 117 => leaf (k * 128 + 117) (i % 128)
  | 118 => leaf (k * 128 + 118) (i % 128)
  | 119 => leaf (k * 128 + 119) (i % 128)
  | 120 => leaf (k * 128 + 120) (i % 128)
  | 121 => leaf (k * 128 + 121) (i % 128)
  | 122 => leaf (k * 128 + 122) (i % 128)
  | 123 => leaf (k * 128 + 123) (i % 128)
  | 124 => leaf (k * 128 + 124) (i % 128)
  | 125 => leaf (k * 128 + 125) (i % 128)
  | 126 => leaf (k * 128 + 126) (i % 128)
  | 127 => leaf (k * 128 + 127) (i % 128)
  | _ => 0#16

/-- The whole tree. -/
def tree (i n : ℕ) : BitVec 16 := match n with
  | 0 => block 0 i (i / 128 % 128)
  | 1 => block 1 i (i / 128 % 128)
  | 2 => block 2 i (i / 128 % 128)
  | 3 => block 3 i (i / 128 % 128)
  | 4 => block 4 i (i / 128 % 128)
  | 5 => block 5 i (i / 128 % 128)
  | 6 => block 6 i (i / 128 % 128)
  | 7 => block 7 i (i / 128 % 128)
  | 8 => block 8 i (i / 128 % 128)
  | _ => 0#16

/-- The literal is the computed tree. -/
theorem lit0t_eq : lit0t = fun i => tree i (i / 16384) := by
  sl_kernel_rfl

/-- A run at a place. -/
theorem leaf_eq (j n : ℕ) (h : n < 128) : leaf j n = entry j n := by
  interval_cases n <;> rfl

/-- A block at a run. -/
theorem block_eq (k i n : ℕ) (h : n < 128) : block k i n = leaf (k * 128 + n) (i % 128) := by
  interval_cases n <;> rfl

/-- The tree at a block. -/
theorem tree_eq (i n : ℕ) (h : n < 9) : tree i n = block n i (i / 128 % 128) := by
  interval_cases n <;> rfl

/-- The literal's bits at row `r`, column `k`. -/
theorem lit0_apply (r k : Fin 384) (h : r.val * 384 + k.val < 147456) :
    lit0 ⟨r.val * 384 + k.val, h⟩ = if k.val = r.val % 24 * 16 + r.val / 24 then 0x3F80#16 else 0#16 := by
  show lit0t (r.val * 384 + k.val) = _
  rw [lit0t_eq]
  show tree _ _ = _
  rw [tree_eq _ _ (by omega), block_eq _ _ _ (Nat.mod_lt _ (by decide)), leaf_eq _ _ (Nat.mod_lt _ (by decide))]
  unfold entry
  have hj : (r.val * 384 + k.val) / 16384 * 128 + (r.val * 384 + k.val) / 128 % 128 = r.val * 3 + k.val / 128 := by omega
  rw [hj]
  have h1 : (r.val * 3 + k.val / 128) % 3 = k.val / 128 := by omega
  have h2 : (r.val * 3 + k.val / 128) / 3 = r.val := by omega
  have h3 : (r.val * 384 + k.val) % 128 + k.val / 128 * 128 = k.val := by omega
  rw [h1, h2, h3]

end Cert.Proof.Literal

end
-- ==== Proof.Spec.lean ====
/-
  The mathematics both programs are compared through: the patch embedding of a batch of images, and the rows of it that
  the two results hold.
-/
module

public import Idealize.ShloMosaic.Lib.Pointwise
public import Idealize.ShloMosaic.PureOps.Ideal

@[expose] public section

noncomputable section

namespace Cert.Proof.Spec

open Idealize.ShloMosaic

/-- The pixel that entry `k` of patch `p` of image `n` holds: patch `p` is the 16 × 16 tile number `p / 24` from the top
    and `p % 24` from the left, and its entries run over tile row, tile column and channel, the channel fastest. -/
def pixel (x : (⟨4, ![64, 3, 384, 384]⟩ : Shape).Idx → EReal) (n : Fin 64) (p : Fin 576) (k : Fin 768) : EReal :=
  x (ix4 n ⟨k.val % 3, by omega⟩ ⟨p.val / 24 * 16 + k.val / 48, by omega⟩ ⟨p.val % 24 * 16 + k.val / 3 % 16, by omega⟩)

/-- Entry `e` of the embedding of patch `p` of image `n`: the patch times column `e` of the weights, plus the bias. -/
def emb (x : (⟨4, ![64, 3, 384, 384]⟩ : Shape).Idx → EReal) (w : (⟨2, ![768, 192]⟩ : Shape).Idx → EReal)
    (b : (⟨1, ![192]⟩ : Shape).Idx → EReal) (n : Fin 64) (p : Fin 576) (e : Fin 192) : EReal :=
  (∑ k : Fin 768, pixel x n p k * w (ix2 k e)) + b (ix1 e)

end Cert.Proof.Spec

end
-- ==== Proof.Ref.lean ====
module

public import proofs.«01_k».proof.Proof.Gen.ReferenceIdeal.Run
public import proofs.«01_k».proof.Proof.Spec
public import Idealize.ShloMosaic.Lib.Pointwise
public import Idealize.ShloMosaic.Lib.ValueIdx
public import Idealize.ShloMosaic.PureOps.Ideal

@[expose] public section

set_option maxRecDepth 16384

noncomputable section

namespace Cert.Proof.Ref

open Idealize.ShloMosaic.ValueIdx (select_one)
open Idealize.ShloMosaic Idealize.SL.Sem Cert.ReferenceIdeal
open Cert.ReferenceIdeal.Facts₀

/-- The dimension numbers of a gather of rows along the middle axis. -/
abbrev midDims (n : Nat) (wf : GatherDims.WF ⟨3, ![64, 576, 192]⟩ ⟨2, ![n, 1]⟩ ⟨3, ![64, n, 192]⟩ [0, 2] [1] [] [1] [] 1 ![64, 1, 192]) :
    GatherDims ⟨3, ![64, 576, 192]⟩ ⟨2, ![n, 1]⟩ ⟨3, ![64, n, 192]⟩ where
  offsetDims := [0, 2]
  collapsedSliceDims := [1]
  operandBatchingDims := []
  startIndicesBatchingDims := []
  startIndexMap := [1]
  indexVectorDim := 1
  sliceSizes := ![64, 1, 192]
  wf := wf

/-- The gather of rows along the middle axis, read at an index whose row number is in range. -/
theorem gather_mid {α : Type} (n : Nat) (wf) (x : (⟨3, ![64, 576, 192]⟩ : Shape).Idx → α) (idx : IVec ⟨2, ![n, 1]⟩ 32)
    (a : Fin 64) (j : Fin n) (e : Fin 192) (p : Fin 576) (hp : (idx (ix2 j 0)).toInt.toNat = p.val) :
    Host.gather (midDims n wf) x idx (ix3 a j e) = x (ix3 a p e) := by
  unfold Host.gather
  congr 1
  funext b
  refine Fin.ext ?_
  show (midDims n wf).start (ix3 a j e) idx b + (midDims n wf).batchCoord (ix3 a j e) b
      + (midDims n wf).offCoord (ix3 a j e) b = _
  rw [GatherDims.batchCoord_eq_zero _ _ _ List.not_mem_nil]
  have h01 : b = 0 ∨ b = 1 ∨ b = 2 := by
    match b with
    | ⟨0, _⟩ => exact Or.inl rfl
    | ⟨1, _⟩ => exact Or.inr (Or.inl rfl)
    | ⟨2, _⟩ => exact Or.inr (Or.inr rfl)
  rcases h01 with rfl | rfl | rfl
  · unfold GatherDims.start
    rw [dif_neg (show ¬ (0 : Fin 3) ∈ ([1] : List (Fin 3)) by decide)]
    unfold GatherDims.offCoord
    rw [dif_pos (show (0 : Fin 3) ∈ (midDims n wf).sKept from
      (GatherDims.mem_sKept _ _).mpr ⟨(by decide : (0 : Fin 3) ∉ ([1] : List (Fin 3))), List.not_mem_nil⟩)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 3) ∈ (midDims n wf).startIndexMap from List.mem_singleton.mpr rfl)]
    have hsi : (midDims n wf).siIdx (ix3 a j e) ⟨List.idxOf (1 : Fin 3) (midDims n wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi, hp]
    show min p.val (576 - 1) + 0 + 0 = p.val
    omega
  · unfold GatherDims.start
    rw [dif_neg (show ¬ (2 : Fin 3) ∈ ([1] : List (Fin 3)) by decide)]
    unfold GatherDims.offCoord
    rw [dif_pos (show (2 : Fin 3) ∈ (midDims n wf).sKept from
      (GatherDims.mem_sKept _ _).mpr ⟨(by decide : (2 : Fin 3) ∉ ([1] : List (Fin 3))), List.not_mem_nil⟩)]
    simp only [Nat.zero_add]
    rfl

/-- The row words of the reference's first table are row numbers. -/
theorem lit0_lt : ∀ k : Fin 474, (lit0 k).toNat < 576 := by decide +kernel
theorem lit1_lt : ∀ k : Fin 20, (lit1 k).toNat < 576 := by decide +kernel
theorem lit2_lt : ∀ k : Fin 6, (lit2 k).toNat < 576 := by decide +kernel
theorem lit3_lt : ∀ k : Fin 12, (lit3 k).toNat < 576 := by decide +kernel
theorem lit4_lt : ∀ k : Fin 20, (lit4 k).toNat < 576 := by decide +kernel

/-- A row number does not wrap: the index words the reference wraps when negative stay as they are. -/
theorem wrap_eq (w : BitVec 32) (h : w.toNat < 576) :
    Scalar.select (IntOp.cmpi .slt w 0#32) (IntOp.addi w 576#32) w = w := by
  have hi : w.toInt = w.toNat := by rw [BitVec.toInt_eq_toNat_cond]; split <;> omega
  have : IntOp.cmpi .slt w 0#32 = 0#1 := by
    show BitVec.ofBool (w.slt 0#32) = 0#1
    have : w.slt 0#32 = false := by
      rw [BitVec.slt_eq_decide, hi]; simp
    rw [this]; rfl
  rw [this]; rfl

/-- A row number passes the reference's range test. -/
theorem inb_eq (w : BitVec 32) (h : w.toNat < 576) :
    IntOp.andi (IntOp.cmpi .sge w 0#32) (IntOp.cmpi .sle w 575#32) = 1#1 := by
  have hi : w.toInt = w.toNat := by rw [BitVec.toInt_eq_toNat_cond]; split <;> omega
  have h1 : IntOp.cmpi .sge w 0#32 = 1#1 := by
    show BitVec.ofBool ((0#32).sle w) = 1#1
    have : (0#32).sle w = true := by
      rw [BitVec.sle_eq_decide, hi]; simp
    rw [this]; rfl
  have h2 : IntOp.cmpi .sle w 575#32 = 1#1 := by
    show BitVec.ofBool (w.sle 575#32) = 1#1
    have : w.sle 575#32 = true := by
      rw [BitVec.sle_eq_decide, hi]
      have : (575#32 : BitVec 32).toInt = 575 := by decide
      rw [this]; simp; omega
    rw [this]; rfl
  rw [h1, h2]; rfl

/-- A row of the reference's take number 0: the row that entry `j` of its table names. -/
theorem take0 (Y : S64x576x192.Idx → EReal) (a : Fin 64) (j : Fin 474) (e : Fin 192) :
  select (broadcastInDim S64x474x192 ![1] bcast_S474_S64x474x192_1 (Host.reduce IntOp.andi (andi (cmpi .sge (broadcastInDim S474x1 ![0] bcast_S474_S474x1_0 (select (cmpi .slt ((fun i => lit0 (S474.rowMajor i))) (broadcastInDim S474 ![] bcast_S_S474 (constantI S_ 32 0#32))) (addi ((fun i => lit0 (S474.rowMajor i))) (broadcastInDim S474 ![] bcast_S_S474 (constantI S_ 32 576#32))) ((fun i => lit0 (S474.rowMajor i))))) (broadcastInDim S474x1 ![] bcast_S_S474x1 (constantI S_ 32 0#32))) (cmpi .sle (broadcastInDim S474x1 ![0] bcast_S474_S474x1_0 (select (cmpi .slt ((fun i => lit0 (S474.rowMajor i))) (broadcastInDim S474 ![] bcast_S_S474 (constantI S_ 32 0#32))) (addi ((fun i => lit0 (S474.rowMajor i))) (broadcastInDim S474 ![] bcast_S_S474 (constantI S_ 32 576#32))) ((fun i => lit0 (S474.rowMajor i))))) (broadcastInDim S474x1 ![0, 1] bcast_S1x1_S474x1_0_1 (broadcastInDim S1x1 ![1] bcast_S1_S1x1_1 (constantI S1 32 575#32))))) (constantI S_ 1 1#1) reducesTo_S474x1_S474_d1 h_S_)) (Host.gather gather_S64x576x192_S474x1_S64x474x192_02_1_n_n_1_1_641192 Y (broadcastInDim S474x1 ![0] bcast_S474_S474x1_0 (select (cmpi .slt ((fun i => lit0 (S474.rowMajor i))) (broadcastInDim S474 ![] bcast_S_S474 (constantI S_ 32 0#32))) (addi ((fun i => lit0 (S474.rowMajor i))) (broadcastInDim S474 ![] bcast_S_S474 (constantI S_ 32 576#32))) ((fun i => lit0 (S474.rowMajor i)))))) (broadcastInDim S64x474x192 ![] bcast_S_S64x474x192 (constant (F := Ideal) S_ .f32 0x7FC00000#32)) (ix3 a j e) = Y (ix3 a ⟨(lit0 j).toNat, lit0_lt j⟩ e) := by
  pointwise
  have hr : S474.rowMajor (ix1 j) = j := Fin.ext (Shape.rowMajor_val_one _)
  rw [hr, wrap_eq _ (lit0_lt j), inb_eq _ (lit0_lt j), Finset.univ_unique, Finset.fold_singleton]
  refine (select_one _ _).trans (gather_mid 474 _ Y _ a j e ⟨_, lit0_lt j⟩ ?_)
  pointwise
  rw [hr, wrap_eq _ (lit0_lt j), BitVec.toInt_eq_toNat_cond]
  have := lit0_lt j
  split <;> simp <;> omega

/-- A row of the reference's take number 1: the row that entry `j` of its table names. -/
theorem take1 (Y : S64x576x192.Idx → EReal) (a : Fin 64) (j : Fin 20) (e : Fin 192) :
  select (broadcastInDim S64x20x192 ![1] bcast_S20_S64x20x192_1 (Host.reduce IntOp.andi (andi (cmpi .sge (broadcastInDim S20x1 ![0] bcast_S20_S20x1_0 (select (cmpi .slt ((fun i => lit1 (S20.rowMajor i))) (broadcastInDim S20 ![] bcast_S_S20 (constantI S_ 32 0#32))) (addi ((fun i => lit1 (S20.rowMajor i))) (broadcastInDim S20 ![] bcast_S_S20 (constantI S_ 32 576#32))) ((fun i => lit1 (S20.rowMajor i))))) (broadcastInDim S20x1 ![] bcast_S_S20x1 (constantI S_ 32 0#32))) (cmpi .sle (broadcastInDim S20x1 ![0] bcast_S20_S20x1_0 (select (cmpi .slt ((fun i => lit1 (S20.rowMajor i))) (broadcastInDim S20 ![] bcast_S_S20 (constantI S_ 32 0#32))) (addi ((fun i => lit1 (S20.rowMajor i))) (broadcastInDim S20 ![] bcast_S_S20 (constantI S_ 32 576#32))) ((fun i => lit1 (S20.rowMajor i))))) (broadcastInDim S20x1 ![0, 1] bcast_S1x1_S20x1_0_1 (broadcastInDim S1x1 ![1] bcast_S1_S1x1_1 (constantI S1 32 575#32))))) (constantI S_ 1 1#1) reducesTo_S20x1_S20_d1 h_S_)) (Host.gather gather_S64x576x192_S20x1_S64x20x192_02_1_n_n_1_1_641192 Y (broadcastInDim S20x1 ![0] bcast_S20_S20x1_0 (select (cmpi .slt ((fun i => lit1 (S20.rowMajor i))) (broadcastInDim S20 ![] bcast_S_S20 (constantI S_ 32 0#32))) (addi ((fun i => lit1 (S20.rowMajor i))) (broadcastInDim S20 ![] bcast_S_S20 (constantI S_ 32 576#32))) ((fun i => lit1 (S20.rowMajor i)))))) (broadcastInDim S64x20x192 ![] bcast_S_S64x20x192 (constant (F := Ideal) S_ .f32 0x7FC00000#32)) (ix3 a j e) = Y (ix3 a ⟨(lit1 j).toNat, lit1_lt j⟩ e) := by
  pointwise
  have hr : S20.rowMajor (ix1 j) = j := Fin.ext (Shape.rowMajor_val_one _)
  rw [hr, wrap_eq _ (lit1_lt j), inb_eq _ (lit1_lt j), Finset.univ_unique, Finset.fold_singleton]
  refine (select_one _ _).trans (gather_mid 20 _ Y _ a j e ⟨_, lit1_lt j⟩ ?_)
  pointwise
  rw [hr, wrap_eq _ (lit1_lt j), BitVec.toInt_eq_toNat_cond]
  have := lit1_lt j
  split <;> simp <;> omega

/-- A row of the reference's take number 2: the row that entry `j` of its table names. -/
theorem take2 (Y : S64x576x192.Idx → EReal) (a : Fin 64) (j : Fin 6) (e : Fin 192) :
  select (broadcastInDim S64x6x192 ![1] bcast_S6_S64x6x192_1 (Host.reduce IntOp.andi (andi (cmpi .sge (broadcastInDim S6x1 ![0] bcast_S6_S6x1_0 (select (cmpi .slt ((fun i => lit2 (S6.rowMajor i))) (broadcastInDim S6 ![] bcast_S_S6 (constantI S_ 32 0#32))) (addi ((fun i => lit2 (S6.rowMajor i))) (broadcastInDim S6 ![] bcast_S_S6 (constantI S_ 32 576#32))) ((fun i => lit2 (S6.rowMajor i))))) (broadcastInDim S6x1 ![] bcast_S_S6x1 (constantI S_ 32 0#32))) (cmpi .sle (broadcastInDim S6x1 ![0] bcast_S6_S6x1_0 (select (cmpi .slt ((fun i => lit2 (S6.rowMajor i))) (broadcastInDim S6 ![] bcast_S_S6 (constantI S_ 32 0#32))) (addi ((fun i => lit2 (S6.rowMajor i))) (broadcastInDim S6 ![] bcast_S_S6 (constantI S_ 32 576#32))) ((fun i => lit2 (S6.rowMajor i))))) (broadcastInDim S6x1 ![0, 1] bcast_S1x1_S6x1_0_1 (broadcastInDim S1x1 ![1] bcast_S1_S1x1_1 (constantI S1 32 575#32))))) (constantI S_ 1 1#1) reducesTo_S6x1_S6_d1 h_S_)) (Host.gather gather_S64x576x192_S6x1_S64x6x192_02_1_n_n_1_1_641192 Y (broadcastInDim S6x1 ![0] bcast_S6_S6x1_0 (select (cmpi .slt ((fun i => lit2 (S6.rowMajor i))) (broadcastInDim S6 ![] bcast_S_S6 (constantI S_ 32 0#32))) (addi ((fun i => lit2 (S6.rowMajor i))) (broadcastInDim S6 ![] bcast_S_S6 (constantI S_ 32 576#32))) ((fun i => lit2 (S6.rowMajor i)))))) (broadcastInDim S64x6x192 ![] bcast_S_S64x6x192 (constant (F := Ideal) S_ .f32 0x7FC00000#32)) (ix3 a j e) = Y (ix3 a ⟨(lit2 j).toNat, lit2_lt j⟩ e) := by
  pointwise
  have hr : S6.rowMajor (ix1 j) = j := Fin.ext (Shape.rowMajor_val_one _)
  rw [hr, wrap_eq _ (lit2_lt j), inb_eq _ (lit2_lt j), Finset.univ_unique, Finset.fold_singleton]
  refine (select_one _ _).trans (gather_mid 6 _ Y _ a j e ⟨_, lit2_lt j⟩ ?_)
  pointwise
  rw [hr, wrap_eq _ (lit2_lt j), BitVec.toInt_eq_toNat_cond]
  have := lit2_lt j
  split <;> simp <;> omega

/-- A row of the reference's take number 3: the row that entry `j` of its table names. -/
theorem take3 (Y : S64x576x192.Idx → EReal) (a : Fin 64) (j : Fin 12) (e : Fin 192) :
  select (broadcastInDim S64x12x192 ![1] bcast_S12_S64x12x192_1 (Host.reduce IntOp.andi (andi (cmpi .sge (broadcastInDim S12x1 ![0] bcast_S12_S12x1_0 (select (cmpi .slt ((fun i => lit3 (S12.rowMajor i))) (broadcastInDim S12 ![] bcast_S_S12 (constantI S_ 32 0#32))) (addi ((fun i => lit3 (S12.rowMajor i))) (broadcastInDim S12 ![] bcast_S_S12 (constantI S_ 32 576#32))) ((fun i => lit3 (S12.rowMajor i))))) (broadcastInDim S12x1 ![] bcast_S_S12x1 (constantI S_ 32 0#32))) (cmpi .sle (broadcastInDim S12x1 ![0] bcast_S12_S12x1_0 (select (cmpi .slt ((fun i => lit3 (S12.rowMajor i))) (broadcastInDim S12 ![] bcast_S_S12 (constantI S_ 32 0#32))) (addi ((fun i => lit3 (S12.rowMajor i))) (broadcastInDim S12 ![] bcast_S_S12 (constantI S_ 32 576#32))) ((fun i => lit3 (S12.rowMajor i))))) (broadcastInDim S12x1 ![0, 1] bcast_S1x1_S12x1_0_1 (broadcastInDim S1x1 ![1] bcast_S1_S1x1_1 (constantI S1 32 575#32))))) (constantI S_ 1 1#1) reducesTo_S12x1_S12_d1 h_S_)) (Host.gather gather_S64x576x192_S12x1_S64x12x192_02_1_n_n_1_1_641192 Y (broadcastInDim S12x1 ![0] bcast_S12_S12x1_0 (select (cmpi .slt ((fun i => lit3 (S12.rowMajor i))) (broadcastInDim S12 ![] bcast_S_S12 (constantI S_ 32 0#32))) (addi ((fun i => lit3 (S12.rowMajor i))) (broadcastInDim S12 ![] bcast_S_S12 (constantI S_ 32 576#32))) ((fun i => lit3 (S12.rowMajor i)))))) (broadcastInDim S64x12x192 ![] bcast_S_S64x12x192 (constant (F := Ideal) S_ .f32 0x7FC00000#32)) (ix3 a j e) = Y (ix3 a ⟨(lit3 j).toNat, lit3_lt j⟩ e) := by
  pointwise
  have hr : S12.rowMajor (ix1 j) = j := Fin.ext (Shape.rowMajor_val_one _)
  rw [hr, wrap_eq _ (lit3_lt j), inb_eq _ (lit3_lt j), Finset.univ_unique, Finset.fold_singleton]
  refine (select_one _ _).trans (gather_mid 12 _ Y _ a j e ⟨_, lit3_lt j⟩ ?_)
  pointwise
  rw [hr, wrap_eq _ (lit3_lt j), BitVec.toInt_eq_toNat_cond]
  have := lit3_lt j
  split <;> simp <;> omega

/-- A row of the reference's take number 4: the row that entry `j` of its table names. -/
theorem take4 (Y : S64x576x192.Idx → EReal) (a : Fin 64) (j : Fin 20) (e : Fin 192) :
  select (broadcastInDim S64x20x192 ![1] bcast_S20_S64x20x192_1 (Host.reduce IntOp.andi (andi (cmpi .sge (broadcastInDim S20x1 ![0] bcast_S20_S20x1_0 (select (cmpi .slt ((fun i => lit4 (S20.rowMajor i))) (broadcastInDim S20 ![] bcast_S_S20 (constantI S_ 32 0#32))) (addi ((fun i => lit4 (S20.rowMajor i))) (broadcastInDim S20 ![] bcast_S_S20 (constantI S_ 32 576#32))) ((fun i => lit4 (S20.rowMajor i))))) (broadcastInDim S20x1 ![] bcast_S_S20x1 (constantI S_ 32 0#32))) (cmpi .sle (broadcastInDim S20x1 ![0] bcast_S20_S20x1_0 (select (cmpi .slt ((fun i => lit4 (S20.rowMajor i))) (broadcastInDim S20 ![] bcast_S_S20 (constantI S_ 32 0#32))) (addi ((fun i => lit4 (S20.rowMajor i))) (broadcastInDim S20 ![] bcast_S_S20 (constantI S_ 32 576#32))) ((fun i => lit4 (S20.rowMajor i))))) (broadcastInDim S20x1 ![0, 1] bcast_S1x1_S20x1_0_1 (broadcastInDim S1x1 ![1] bcast_S1_S1x1_1 (constantI S1 32 575#32))))) (constantI S_ 1 1#1) reducesTo_S20x1_S20_d1 h_S_)) (Host.gather gather_S64x576x192_S20x1_S64x20x192_02_1_n_n_1_1_641192 Y (broadcastInDim S20x1 ![0] bcast_S20_S20x1_0 (select (cmpi .slt ((fun i => lit4 (S20.rowMajor i))) (broadcastInDim S20 ![] bcast_S_S20 (constantI S_ 32 0#32))) (addi ((fun i => lit4 (S20.rowMajor i))) (broadcastInDim S20 ![] bcast_S_S20 (constantI S_ 32 576#32))) ((fun i => lit4 (S20.rowMajor i)))))) (broadcastInDim S64x20x192 ![] bcast_S_S64x20x192 (constant (F := Ideal) S_ .f32 0x7FC00000#32)) (ix3 a j e) = Y (ix3 a ⟨(lit4 j).toNat, lit4_lt j⟩ e) := by
  pointwise
  have hr : S20.rowMajor (ix1 j) = j := Fin.ext (Shape.rowMajor_val_one _)
  rw [hr, wrap_eq _ (lit4_lt j), inb_eq _ (lit4_lt j), Finset.univ_unique, Finset.fold_singleton]
  refine (select_one _ _).trans (gather_mid 20 _ Y _ a j e ⟨_, lit4_lt j⟩ ?_)
  pointwise
  rw [hr, wrap_eq _ (lit4_lt j), BitVec.toInt_eq_toNat_cond]
  have := lit4_lt j
  split <;> simp <;> omega

/-- The reference's embeddings before the takes, at an index. -/
theorem emb_apply (x : S64x3x384x384.Idx → EReal) (w : S768x192.Idx → EReal) (b : S192.Idx → EReal)
    (n : Fin 64) (p : Fin 576) (e : Fin 192) :
    (addf (F := Ideal) (φ := .f32) (Host.dotGeneral (φ₁ := .f32) (φ₂ := .f32) dot_S64x576x768_S768x192_S64x576x192_2_0_01_1_n_n none (shapeCast _ (transpose S64x24x24x16x16x3 [0, 2, 4, 3, 5, 1] (shapeCast _ x shapeCasts_S64x3x384x384_S64x3x24x16x24x16) transposes_S64x3x24x16x24x16_S64x24x24x16x16x3_0_2_4_3_5_1) shapeCasts_S64x24x24x16x16x3_S64x576x768) w) (broadcastInDim S64x576x192 ![0, 1, 2] bcast_S1x1x192_S64x576x192_0_1_2 (broadcastInDim S1x1x192 ![2] bcast_S192_S1x1x192_2 b))) (ix3 n p e)
      = Spec.emb x w b n p e := by
  pointwise
  rfl

/-- The patch whose embedding the first result holds at row `j`: the reference's own table. -/
def ctxRow (j : Fin 474) : Fin 576 := ⟨(lit0 j).toNat, lit0_lt j⟩

/-- The patch whose embedding the second result holds at row `j`: the reference's four tables one after another. -/
def tgtRow (j : Fin 58) : Fin 576 :=
  if h : j.val < 20 then ⟨(lit1 ⟨j.val, h⟩).toNat, lit1_lt _⟩
  else if h' : j.val < 26 then ⟨(lit2 ⟨j.val - 20, by omega⟩).toNat, lit2_lt _⟩
  else if h'' : j.val < 38 then ⟨(lit3 ⟨j.val - 26, by omega⟩).toNat, lit3_lt _⟩
  else ⟨(lit4 ⟨j.val - 38, by omega⟩).toNat, lit4_lt _⟩

/-- Four arrays one after another along the middle axis, at an index. -/
theorem cat_apply (y1 : S64x20x192.Idx → EReal) (y2 : S64x6x192.Idx → EReal) (y3 : S64x12x192.Idx → EReal) (y4 : S64x20x192.Idx → EReal)
    (h) (n : Fin 64) (j : Fin 58) (e : Fin 192) :
    concatenate S64x58x192 1 [⟨S64x20x192, y1⟩, ⟨S64x6x192, y2⟩, ⟨S64x12x192, y3⟩, ⟨S64x20x192, y4⟩] h (ix3 n j e)
      = if h : j.val < 20 then y1 (ix3 n ⟨j.val, h⟩ e)
        else if h' : j.val < 26 then y2 (ix3 n ⟨j.val - 20, by omega⟩ e)
        else if h'' : j.val < 38 then y3 (ix3 n ⟨j.val - 26, by omega⟩ e)
        else y4 (ix3 n ⟨j.val - 38, by omega⟩ e) := by
  pointwise
  split
  · rfl
  · by_cases h1 : j.val < 26
    · rw [dif_pos (by omega), dif_pos h1]
    · rw [dif_neg (by omega), dif_neg h1]
      by_cases h2 : j.val < 38
      · rw [dif_pos (by omega), dif_pos h2]
        congr 1
      · rw [dif_neg (by omega), dif_neg h2]
        congr 1

/-- The reference's second result, at an index. -/
theorem out1_apply (m : (ℓ : Loc nD τ sig) → Buf (Elt Ideal) ℓ) (c : Dev nD) (n : Fin 64) (j : Fin 58) (e : Fin 192) :
    Value.res_main_v12 (F := Ideal) m c (ix3 n j e)
      = Spec.emb (m ((c.tc : Thread nD τ).loc main_arg0)) (m ((c.tc : Thread nD τ).loc main_arg1))
          (m ((c.tc : Thread nD τ).loc main_arg2)) n (tgtRow j) e := by
  unfold Value.res_main_v12
  refine (cat_apply _ _ _ _ _ n j e).trans ?_
  unfold tgtRow
  split
  · exact (take1 _ _ _ _).trans (emb_apply _ _ _ _ _ _)
  · split
    · exact (take2 _ _ _ _).trans (emb_apply _ _ _ _ _ _)
    · split
      · exact (take3 _ _ _ _).trans (emb_apply _ _ _ _ _ _)
      · exact (take4 _ _ _ _).trans (emb_apply _ _ _ _ _ _)

/-- The reference's run: every result entry is an embedding of the arguments' contents, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = (fun i => Spec.emb (m ((c.tc : Thread nD τ).loc main_arg0)) (m ((c.tc : Thread nD τ).loc main_arg1))
          (m ((c.tc : Thread nD τ).loc main_arg2)) (i 0) (ctxRow (i 1)) (i 2))
      ∧ r.2.mem ((c.tc : Thread nD τ).loc main_v12) = (fun i => Spec.emb (m ((c.tc : Thread nD τ).loc main_arg0)) (m ((c.tc : Thread nD τ).loc main_arg1))
          (m ((c.tc : Thread nD τ).loc main_arg2)) (i 0) (tgtRow (i 1)) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2⟩ := h c
    refine ⟨h0.trans ?_, h1.trans ?_, h2⟩
    · funext i
      rw [eq_ix3 i]
      exact (take0 _ (i 0) (i 1) (i 2)).trans (emb_apply _ _ _ _ _ _)
    · funext i
      rw [eq_ix3 i]
      exact out1_apply m c (i 0) (i 1) (i 2))
    (Value.run (F := Ideal) m ρ)

end Cert.Proof.Ref
-- ==== Proof.Stores.lean ====
/-
  What one grid point leaves in each result's block and in the scratch array: the lists of stores of `Body`, read back.
-/
module

public import proofs.«01_k».proof.Proof.Block
public import proofs.«01_k».proof.Proof.Ref
public import Idealize.ShloMosaic.Lib.ValueLayout
public import Idealize.ShloMosaic.Lib.Pipeline.CanonAppend
public import Idealize.ShloMosaic.Lib.Pipeline.ValueKit.Tiles

@[expose] public section

set_option maxRecDepth 16384

noncomputable section

namespace Cert.Proof.Stores

open Idealize.ShloMosaic Idealize.SL.Sem Cert.KernelIdeal Cert.KernelIdeal.Gen Cert.Proof.Body
open Cert.KernelIdeal.Facts₀

/-! ## The results -/

/-- A table of rows agrees with the runs: row `j` of a run is its patch. -/
def Agrees {N : Nat} (rs : List (Run N)) (tab : Fin N → Fin 576) : Prop :=
  ∀ r ∈ rs, ∀ j : Fin N, r.dst ≤ j.val → j.val < r.dst + r.ln → (tab j).val = r.src + (j.val - r.dst)

/-- The first result's runs are the reference's first table. -/
theorem agrees_ctx : Agrees ctxRuns Ref.ctxRow := by
  unfold Agrees
  decide +kernel

/-- The second result's runs are the reference's four other tables. -/
theorem agrees_tgt : Agrees tgtRuns Ref.tgtRow := by
  unfold Agrees
  decide +kernel

/-- The rows of a run, read at an index. -/
theorem rowsAt_apply {N : Nat} (E : FVec Ideal S576x256 .f32) (r : Run N) (j : Fin r.ln) (e : Fin 192) :
    rowsAt E r (ix3 0 j e) = E (ix2 ⟨r.src + j.val, by have := r.hsrc; omega⟩ ⟨e.val, by omega⟩) := by
  unfold rowsAt
  refine (shapeCast_apply _ _ (ix3 0 j e) (ix2 j e) ?_).trans ?_
  · rw [Shape.rowMajor_val_three, Shape.rowMajor_val_two]
    show j.val * 192 + e.val = (0 * r.ln + j.val) * 192 + e.val
    omega
  · refine congrArg E (funext fun a => ?_)
    match a with
    | ⟨0, _⟩ => rfl
    | ⟨1, _⟩ => exact Fin.ext (by show 0 + e.val = e.val; omega)

/-- The stores of a result, read back at an index some store covers. -/
theorem pieces_apply {N : Nat} (E : Fin 4 → FVec Ideal S576x256 .f32) (rs : List (Run N)) (tab : Fin N → Fin 576)
    (h : Agrees rs tab) (y : (⟨3, ![4, N, 192]⟩ : Shape).Idx) (hc : ∃ p ∈ pieces E rs, y ∈ p.1.set) :
    View.canon (pieces E rs) y = E (y 0) (ix2 (tab (y 1)) ⟨(y 2).val, Nat.lt_of_lt_of_le (y 2).isLt (by decide : 192 ≤ 256)⟩) := by
  refine View.canon_apply_of_pieces
    (fun y => E (y 0) (ix2 (tab (y 1)) ⟨(y 2).val, Nat.lt_of_lt_of_le (y 2).isLt (by decide : 192 ≤ 256)⟩)) _ ?_ y hc
  intro p hp x
  obtain ⟨i, -, hp⟩ := List.mem_flatMap.1 hp
  obtain ⟨r, hr, rfl⟩ := List.mem_map.1 hp
  have hx : ∀ a : Fin 3, ((piece E i r).1.emb x a).val = ![i.val, r.dst, 0] a + (x a).val :=
    fun a => by show ![i.val, r.dst, 0] a + 1 * (x a).val = _; omega
  have h0 : ((piece E i r).1.emb x 0).val = i.val + (x 0).val := hx 0
  have h1 : ((piece E i r).1.emb x 1).val = r.dst + (x 1).val := hx 1
  have h2 : ((piece E i r).1.emb x 2).val = 0 + (x 2).val := hx 2
  have l0 : (x 0).val < 1 := (x 0).isLt
  have l1 : (x 1).val < r.ln := (x 1).isLt
  have l2 : (x 2).val < 192 := (x 2).isLt
  have ex : x = ix3 (n0 := 1) (n1 := r.ln) (n2 := 192) 0 ⟨(x 1).val, l1⟩ ⟨(x 2).val, l2⟩ := by
    funext a
    match a with
    | ⟨0, _⟩ => exact Fin.ext (by show (x 0).val = 0; omega)
    | ⟨1, _⟩ => rfl
    | ⟨2, _⟩ => rfl
  have e0 : (piece E i r).1.emb x 0 = i := Fin.ext (by rw [h0]; omega)
  have e1 := h r hr ((piece E i r).1.emb x 1) (by rw [h1]; omega) (by rw [h1]; omega)
  show rowsAt (E i) r x = E ((piece E i r).1.emb x 0) (ix2 (tab ((piece E i r).1.emb x 1)) ⟨((piece E i r).1.emb x 2).val, _⟩)
  rw [e0]
  conv_lhs => rw [ex]
  rw [rowsAt_apply]
  congr 1
  congr 1
  · exact Fin.ext (by show r.src + (x 1).val = _; rw [e1, h1]; omega)
  · exact Fin.ext (by show (x 2).val = _; rw [h2]; omega)

/-! ## The scratch array -/

/-- A list of stores over one earlier whole store, read back: where a store of the list lies its value, elsewhere the earlier
    store's. -/
theorem canon_over {S : Shape} {e : EltTy} (G : S.Idx → Elt Ideal e) (L : List (View.Piece (Elt Ideal) S e)) (p0 : View.Piece (Elt Ideal) S e)
    (hL : ∀ p ∈ L, ∀ x : p.1.shape.Idx, p.2 x = G (p.1.emb x)) (y : S.Idx) (h0 : (¬∃ p ∈ L, y ∈ p.1.set) → View.canon [p0] y = G y) :
    View.canon (L ++ [p0]) y = G y := by
  by_cases hc : ∃ p ∈ L, y ∈ p.1.set
  · exact View.canon_append_of_pieces G [p0] L hL y hc
  · rw [← h0 hc]
    clear h0 hL
    induction L with
    | nil => rfl
    | cons p L ih =>
      rw [List.cons_append, View.canon_cons_of_not_mem _ _ (fun hm => hc ⟨p, List.mem_cons_self, hm⟩)]
      exact ih fun ⟨q, hq, hy⟩ => hc ⟨q, List.mem_cons_of_mem _ hq, hy⟩

/-- The block-diagonal array of the weights `w` of the 48 taps. -/
def wdVal (w : Fin 48 → Vec Ideal S1x16x256 .bf16) : Vec Ideal S6144x2048 .bf16 := fun y =>
  if (y 0).val % 128 / 16 = (y 1).val / 256 then
    w ⟨(y 0).val / 128, Nat.div_lt_of_lt_mul (y 0).isLt⟩ (ix3 0 ⟨(y 0).val % 16, Nat.mod_lt _ (by decide)⟩ ⟨(y 1).val % 256, Nat.mod_lt _ (by decide)⟩)
  else (0 : EReal)

/-- The weights of the taps, read at equal indices. -/
theorem w_congr (w : Fin 48 → Vec Ideal S1x16x256 .bf16) {q q' : Fin 48} {a a' : Fin 16} {b b' : Fin 256} (hq : q.val = q'.val)
    (ha : a.val = a'.val) (hb : b.val = b'.val) : w q (ix3 0 a b) = w q' (ix3 0 a' b') := by
  rw [Fin.ext hq, Fin.ext ha, Fin.ext hb]

/-- A store into the scratch array puts the block-diagonal array's entries where it lies. -/
theorem wdPiece_apply (w : Fin 48 → Vec Ideal S1x16x256 .bf16) (k : Fin 384) (x : (wdPiece w k).1.shape.Idx) :
    (wdPiece w k).2 x = wdVal w ((wdPiece w k).1.emb x) := by
  have h0 : ((wdPiece w k).1.emb x 0).val = (k.val / 8 % 3 * 16 + k.val / 24) * 128 + k.val % 8 * 16 + (x 0).val := by
    show _ + 1 * (x 0).val = _
    rw [Nat.one_mul]
    rfl
  have h1 : ((wdPiece w k).1.emb x 1).val = k.val % 8 * 256 + (x 1).val := by
    show _ + 1 * (x 1).val = _
    rw [Nat.one_mul]
    rfl
  have l0 : (x 0).val < 16 := (x 0).isLt
  have l1 : (x 1).val < 256 := (x 1).isLt
  have ex : x = ix2 (n0 := 16) (n1 := 256) ⟨(x 0).val, l0⟩ ⟨(x 1).val, l1⟩ := by
    funext a
    match a with
    | ⟨0, _⟩ => rfl
    | ⟨1, _⟩ => rfl
  have hw : k.val % 8 < 8 := by omega
  have ht := k.isLt
  have e0 : (k.val / 8 % 3 * 16 + k.val / 24) < 48 := by omega
  have lhs : (wdPiece w k).2 x = w ⟨k.val / 8 % 3 * 16 + k.val / 24, e0⟩ (ix3 0 ⟨(x 0).val, l0⟩ ⟨(x 1).val, l1⟩) := by
    conv_lhs => rw [ex]
    show shapeCast S16x256 (shapeCast S16x256 (w ⟨k.val / 8 % 3 * 16 + k.val / 24, _⟩) _) _ (ix2 _ _) = _
    pointwise
  rw [lhs, wdVal, if_pos (by rw [h0, h1]; generalize k.val / 8 % 3 * 16 + k.val / 24 = q; generalize k.val % 8 = v at *; omega)]
  refine w_congr w ?_ ?_ ?_
  · show k.val / 8 % 3 * 16 + k.val / 24 = _ / 128
    rw [h0]
    generalize k.val / 8 % 3 * 16 + k.val / 24 = q
    generalize k.val % 8 = v at *
    omega
  · show (x 0).val = _ % 16
    rw [h0]
    omega
  · show (x 1).val = _ % 256
    rw [h1]
    omega

/-- Every entry of a diagonal block lies in one of the 384 stores. -/
theorem wd_cover (w : Fin 48 → Vec Ideal S1x16x256 .bf16) (y : S6144x2048.Idx) (h : (y 0).val % 128 / 16 = (y 1).val / 256) :
    ∃ p ∈ List.ofFn fun k : Fin 384 => wdPiece w ⟨383 - k.val, by omega⟩, y ∈ p.1.set := by
  have l0 : (y 0).val < 6144 := (y 0).isLt
  have l1 : (y 1).val < 2048 := (y 1).isLt
  have d : ∀ a b v : Nat, b < 3 → v < 8 → (a * 24 + b * 8 + v) / 8 % 3 = b ∧ (a * 24 + b * 8 + v) / 24 = a ∧ (a * 24 + b * 8 + v) % 8 = v := by
    intro a b v hb hv
    have h3 : (a * 24 + b * 8 + v) / 8 = a * 3 + b := by omega
    refine ⟨by rw [h3]; omega, by omega, by omega⟩
  have hd := d ((y 0).val / 128 % 16) ((y 0).val / 2048) ((y 1).val / 256) (by omega) (by omega)
  have hq : (y 0).val / 2048 * 16 + (y 0).val / 128 % 16 = (y 0).val / 128 := by omega
  have hk : (y 0).val / 128 % 16 * 24 + (y 0).val / 2048 * 8 + (y 1).val / 256 < 384 := by omega
  generalize (y 0).val / 128 % 16 * 24 + (y 0).val / 2048 * 8 + (y 1).val / 256 = K at *
  refine ⟨wdPiece w ⟨K, hk⟩, (List.mem_ofFn' _ _).2 ⟨⟨383 - K, by omega⟩, congrArg (wdPiece w) (Fin.ext (by
    show 383 - (383 - K) = K
    omega))⟩, ?_⟩
  refine (Rect.mem_set_unit (inb := wd_inb ⟨K, hk⟩)).2 fun a => ?_
  match a with
  | ⟨0, _⟩ =>
    show (K / 8 % 3 * 16 + K / 24) * 128 + K % 8 * 16 ≤ (y 0).val ∧ (y 0).val < (K / 8 % 3 * 16 + K / 24) * 128 + K % 8 * 16 + 16
    rw [hd.1, hd.2.1, hd.2.2, hq, ← h]
    omega
  | ⟨1, _⟩ =>
    show K % 8 * 256 ≤ (y 1).val ∧ (y 1).val < K % 8 * 256 + 256
    rw [hd.2.2]
    omega

/-- The scratch array after the first point's stores is the block-diagonal array. -/
theorem wdPieces_apply (w : Fin 48 → Vec Ideal S1x16x256 .bf16) : View.canon (wdPieces w) = wdVal w := by
  funext y
  refine canon_over _ _ _ (fun p hp x => ?_) y fun hn => ?_
  · obtain ⟨k, rfl⟩ := (List.mem_ofFn' _ _).1 hp
    exact wdPiece_apply w _ x
  · have hz : ∀ a : Fin S6144x2048.rank, (![0, 0] : Fin S6144x2048.rank → Nat) a = 0 := fun a => by
      match a with
      | ⟨0, _⟩ => rfl
      | ⟨1, _⟩ => rfl
    have h0 : View.canon [zeroPiece (F := Ideal)] = k0_pay1 (F := Ideal) := View.canon_cons_unit_zero (funext hz) _ _ _
    rw [h0, wdVal, if_neg fun h => hn (wd_cover w y h)]
    unfold k0_pay1
    pointwise

end Cert.Proof.Stores

end
-- ==== Proof.Point.lean ====
/-
  What one grid point leaves, as a function of the blocks it reads: at the first point from the weights, at every other point
  from the scratch array that the first point left.
-/
module

public import proofs.«01_k».proof.Proof.Stores

@[expose] public section

set_option maxRecDepth 16384

noncomputable section

namespace Cert.Proof.Point

open Idealize.ShloMosaic Idealize.SL.Sem Cert.KernelIdeal Cert.KernelIdeal.Gen Cert.Proof.Body Cert.Proof.Block Cert.Proof.Stores
open Cert.KernelIdeal.Facts₀

variable (c : Dev nD) (i : grid0.Coords) (arg1 : Memref sig .tc .vmem S4x3x384x384 .f32) (harg1 : arg1.IsWhole)
  (arg2 : Memref sig .tc .vmem S48x16x256 .bf16) (harg2 : arg2.IsWhole) (arg3 : Memref sig .tc .vmem S384x384 .bf16) (harg3 : arg3.IsWhole)
  (arg4 : Memref sig .tc .vmem S1x256 .f32) (harg4 : arg4.IsWhole) (arg5 : Memref sig .tc .vmem S4x474x192 .f32) (harg5 : arg5.IsWhole)
  (arg6 : Memref sig .tc .vmem S4x58x192 .f32) (harg6 : arg6.IsWhole) (arg7 : Memref sig .tc .vmem S6144x2048 .bf16) (harg7 : arg7.IsWhole)
  (x0 : Vec Ideal S4x3x384x384 .f32) (x1 : Vec Ideal S48x16x256 .bf16) (x2 : Vec Ideal S384x384 .bf16) (x3 : Vec Ideal S1x256 .f32)
  (xs0 : Vec Ideal S6144x2048 .bf16)

/-! ## The loads -/

/-- A loaded plane is the plane of the block. -/
theorem plane_apply (n : Fin 4) (ch : Fin 3) (h w : Fin 384) : plane arg1 harg1 x0 n ch (ix4 0 0 h w) = x0 (ix4 n ch h w) := by
  unfold plane
  rw [View.readAt_eq_ld, harg1.read_unread]
  pointwise

/-- The loaded weights of a tap are those of the array. -/
theorem weightsOf_apply (q : Fin 48) (a : Fin 16) (b : Fin 256) : weightsOf arg2 harg2 x1 q (ix3 0 a b) = x1 (ix3 q a b) := by
  unfold weightsOf
  rw [View.readAt_eq_ld, harg2.read_unread]
  pointwise

/-- The loaded matrix is the array. -/
theorem pmOf_apply (r k : Fin 384) : pmOf arg3 harg3 x2 (ix2 r k) = x2 (ix2 r k) := by
  unfold pmOf
  rw [View.readAt_eq_ld, harg3.read_unread]
  pointwise

/-- The loaded bias is the array. -/
theorem biasOf_apply (e : Fin 256) : biasOf arg4 harg4 x3 (ix2 0 e) = x3 (ix2 0 e) := by
  unfold biasOf
  rw [View.readAt_eq_ld, harg4.read_unread]
  pointwise

/-- The scratch array as loaded is what it holds. -/
theorem wdOf_apply (r : Fin 6144) (k : Fin 2048) : wdOf arg7 harg7 xs0 (ix2 r k) = xs0 (ix2 r k) := by
  unfold wdOf
  rw [View.readAt_eq_ld, harg7.read_unread]
  pointwise

/-- The scratch array as loaded after the first point's stores is the block-diagonal array. -/
theorem wdOfA_apply (r : Fin 6144) (k : Fin 2048) :
    wdOfA arg2 harg2 arg7 x1 (ix2 r k) = wdVal (weightsOf arg2 harg2 x1) (ix2 r k) := by
  unfold wdOfA
  rw [View.readCov_eq_canon', wdPieces_apply]
  refine congrArg _ (funext fun a => Fin.ext ?_)
  match a with
  | ⟨0, _⟩ => show 0 + 1 * r.val = r.val; omega
  | ⟨1, _⟩ => show 0 + 1 * k.val = k.val; omega

/-! ## The embeddings of the block -/

/-- The weights as the launch hands them over: tap by tap, the 192 columns padded. -/
def IsWeights (W : (⟨2, ![768, 192]⟩ : Shape).Idx → EReal) : Prop :=
  ∀ (k : Fin 768) (e : Fin 192), (x1 (ix3 ⟨k.val % 3 * 16 + k.val / 48, by omega⟩ ⟨k.val / 3 % 16, by omega⟩ ⟨e.val, by omega⟩) : EReal) = W (ix2 k e)

/-- The embedding of patch `p` of image `n` of a block, entry `e`. -/
def blockEmb (W : (⟨2, ![768, 192]⟩ : Shape).Idx → EReal) (n : Fin 4) (p : Fin 576) (e : Fin 192) : EReal :=
  (∑ k : Fin 768, (x0 (ix4 n ⟨k.val % 3, by omega⟩ ⟨p.val / 24 * 16 + k.val / 48, by omega⟩
    ⟨p.val % 24 * 16 + k.val / 3 % 16, by omega⟩) : EReal) * W (ix2 k e)) + x3 (ix2 0 ⟨e.val, by omega⟩)

/-- The block-diagonal array of the weights has them at their places. -/
theorem isDiag_wdVal (W : (⟨2, ![768, 192]⟩ : Shape).Idx → EReal) (hW : IsWeights x1 W) :
    IsDiag (wdVal (weightsOf arg2 harg2 x1)) W := by
  constructor
  · intro w2 k e
    have hd := place_col (k.val % 3) (k.val / 48) w2.val (k.val / 3 % 16) (by omega) (by omega) (by omega)
    have hp := place_digits w2 k
    have h128 : (place w2 k).val / 128 = k.val % 3 * 16 + k.val / 48 := by
      show ((k.val % 3 * 16 + k.val / 48) * 128 + w2.val * 16 + k.val / 3 % 16) / 128 = _
      omega
    have hm : (place w2 k).val % 128 = w2.val * 16 + k.val / 3 % 16 := hd.2.2
    have hcol : (w2.val * 256 + e.val) / 256 = w2.val := by omega
    have hrow : (place w2 k).val % 128 / 16 = w2.val := by rw [hm]; omega
    show (if (place w2 k).val % 128 / 16 = (w2.val * 256 + e.val) / 256 then _ else _) = _
    rw [if_pos (hrow.trans hcol.symm), weightsOf_apply, ← hW k e]
    refine congrArg x1 ?_
    congr 1
    · exact Fin.ext h128
    · exact Fin.ext hp.2.2
    · exact Fin.ext (by show (w2.val * 256 + e.val) % 256 = e.val; omega)
  · intro w2 k e h
    show (if k.val % 128 / 16 = (w2.val * 256 + e.val) / 256 then _ else (0 : EReal)) = 0
    rw [if_neg (by omega)]

/-- The embeddings at a point that finds the block-diagonal array in the scratch. -/
theorem embB_apply (W : (⟨2, ![768, 192]⟩ : Shape).Idx → EReal) (hpm : IsPerm x2) (hd : IsDiag xs0 W) (n : Fin 4) (p : Fin 576) (e : Fin 192) :
    (embB arg1 harg1 arg3 harg3 arg4 harg4 arg7 harg7 x0 x2 x3 xs0 n (ix2 p ⟨e.val, by omega⟩) : EReal) = blockEmb x0 x3 W n p e := by
  unfold embB
  rw [emb_eq _ _ _ _ (fun r k => (pmOf_apply arg3 harg3 x2 r k).trans (hpm r k)) W
    ⟨fun w2 k e => (wdOf_apply arg7 harg7 xs0 _ _).trans (hd.1 w2 k e), fun w2 k e h => (wdOf_apply arg7 harg7 xs0 _ _).trans (hd.2 w2 k e h)⟩,
    biasOf_apply]
  simp only [plane_apply]
  rfl

/-- The embeddings at the first point. -/
theorem embA_apply (W : (⟨2, ![768, 192]⟩ : Shape).Idx → EReal) (hpm : IsPerm x2) (hW : IsWeights x1 W) (n : Fin 4) (p : Fin 576) (e : Fin 192) :
    (embA arg1 harg1 arg2 harg2 arg3 harg3 arg4 harg4 arg7 x0 x1 x2 x3 n (ix2 p ⟨e.val, by omega⟩) : EReal) = blockEmb x0 x3 W n p e := by
  have hd := isDiag_wdVal arg2 harg2 x1 W hW
  unfold embA
  rw [emb_eq _ _ _ _ (fun r k => (pmOf_apply arg3 harg3 x2 r k).trans (hpm r k)) W
    ⟨fun w2 k e => (wdOfA_apply arg2 harg2 arg7 x1 _ _).trans (hd.1 w2 k e),
      fun w2 k e h => (wdOfA_apply arg2 harg2 arg7 x1 _ _).trans (hd.2 w2 k e h)⟩,
    biasOf_apply]
  simp only [plane_apply]
  rfl

/-! ## What a point leaves -/

/-- The first result's block at a point other than the first. -/
theorem outB4 (hc0 : ¬cond0_0 i) (W : (⟨2, ![768, 192]⟩ : Shape).Idx → EReal) (hpm : IsPerm x2) (hd : IsDiag xs0 W) (y : S4x474x192.Idx) :
    (out0_B_4 c i arg1 harg1 arg2 harg2 arg3 harg3 arg4 harg4 arg5 harg5 arg6 harg6 arg7 harg7 hc0 x0 x1 x2 x3 xs0 y : EReal)
      = blockEmb x0 x3 W (y 0) (Ref.ctxRow (y 1)) (y 2) := by
  have hc := cover0_B_4 c i arg1 harg1 arg2 harg2 arg3 harg3 arg4 harg4 arg5 harg5 arg6 harg6 arg7 harg7 hc0 x0 x1 x2 x3 xs0
  unfold out0_B_4
  rw [View.read_writes_eq_canon _ _ _ hc]
  rw [listB4] at hc ⊢
  rw [pieces_apply _ _ _ agrees_ctx y (hc y)]
  exact embB_apply arg1 harg1 arg3 harg3 arg4 harg4 arg7 harg7 x0 x2 x3 xs0 W hpm hd _ _ _

/-- The second result's block at a point other than the first. -/
theorem outB5 (hc0 : ¬cond0_0 i) (W : (⟨2, ![768, 192]⟩ : Shape).Idx → EReal) (hpm : IsPerm x2) (hd : IsDiag xs0 W) (y : S4x58x192.Idx) :
    (out0_B_5 c i arg1 harg1 arg2 harg2 arg3 harg3 arg4 harg4 arg5 harg5 arg6 harg6 arg7 harg7 hc0 x0 x1 x2 x3 xs0 y : EReal)
      = blockEmb x0 x3 W (y 0) (Ref.tgtRow (y 1)) (y 2) := by
  have hc := cover0_B_5 c i arg1 harg1 arg2 harg2 arg3 harg3 arg4 harg4 arg5 harg5 arg6 harg6 arg7 harg7 hc0 x0 x1 x2 x3 xs0
  unfold out0_B_5
  rw [View.read_writes_eq_canon _ _ _ hc]
  rw [listB5] at hc ⊢
  rw [pieces_apply _ _ _ agrees_tgt y (hc y)]
  exact embB_apply arg1 harg1 arg3 harg3 arg4 harg4 arg7 harg7 x0 x2 x3 xs0 W hpm hd _ _ _

/-- The first result's block at the first point. -/
theorem outA4 (hc0 : cond0_0 i) (W : (⟨2, ![768, 192]⟩ : Shape).Idx → EReal) (hpm : IsPerm x2) (hW : IsWeights x1 W) (y : S4x474x192.Idx) :
    (out0_A_4 c i arg1 harg1 arg2 harg2 arg3 harg3 arg4 harg4 arg5 harg5 arg6 harg6 arg7 harg7 hc0 x0 x1 x2 x3 y : EReal)
      = blockEmb x0 x3 W (y 0) (Ref.ctxRow (y 1)) (y 2) := by
  have hc := cover0_A_4 c i arg1 harg1 arg2 harg2 arg3 harg3 arg4 harg4 arg5 harg5 arg6 harg6 arg7 harg7 hc0 x0 x1 x2 x3
  unfold out0_A_4
  rw [View.read_writes_eq_canon _ _ _ hc]
  rw [listA4] at hc ⊢
  rw [pieces_apply _ _ _ agrees_ctx y (hc y)]
  exact embA_apply arg1 harg1 arg2 harg2 arg3 harg3 arg4 harg4 arg7 x0 x1 x2 x3 W hpm hW _ _ _

/-- The second result's block at the first point. -/
theorem outA5 (hc0 : cond0_0 i) (W : (⟨2, ![768, 192]⟩ : Shape).Idx → EReal) (hpm : IsPerm x2) (hW : IsWeights x1 W) (y : S4x58x192.Idx) :
    (out0_A_5 c i arg1 harg1 arg2 harg2 arg3 harg3 arg4 harg4 arg5 harg5 arg6 harg6 arg7 harg7 hc0 x0 x1 x2 x3 y : EReal)
      = blockEmb x0 x3 W (y 0) (Ref.tgtRow (y 1)) (y 2) := by
  have hc := cover0_A_5 c i arg1 harg1 arg2 harg2 arg3 harg3 arg4 harg4 arg5 harg5 arg6 harg6 arg7 harg7 hc0 x0 x1 x2 x3
  unfold out0_A_5
  rw [View.read_writes_eq_canon _ _ _ hc]
  rw [listA5] at hc ⊢
  rw [pieces_apply _ _ _ agrees_tgt y (hc y)]
  exact embA_apply arg1 harg1 arg2 harg2 arg3 harg3 arg4 harg4 arg7 x0 x1 x2 x3 W hpm hW _ _ _

/-- The scratch array after the first point has the weights at their places. -/
theorem soutA (hc0 : cond0_0 i) (W : (⟨2, ![768, 192]⟩ : Shape).Idx → EReal) (hW : IsWeights x1 W) :
    IsDiag (sout0_A_0 c i arg1 harg1 arg2 harg2 arg3 harg3 arg4 harg4 arg5 harg5 arg6 harg6 arg7 harg7 hc0 x0 x1 x2 x3) W := by
  have hc := scover0_A_0 c i arg1 harg1 arg2 harg2 arg3 harg3 arg4 harg4 arg5 harg5 arg6 harg6 arg7 harg7 hc0 x0 x1 x2 x3
  unfold sout0_A_0
  rw [View.read_writes_eq_canon _ _ _ hc, listAS, wdPieces_apply]
  exact isDiag_wdVal arg2 harg2 x1 W hW

end Cert.Proof.Point

end
-- ==== Proof.Host.lean ====
/-
  What the kernel's launch finds in its arrays: the permutation matrix, the weights laid out tap by tap, the padded bias, and
  the blocks of these a grid point reads.
-/
module

public import proofs.«01_k».proof.Proof.Literal
public import proofs.«01_k».proof.Proof.Point
public import Idealize.ShloMosaic.Lib.Pipeline.ValueKit.Point

@[expose] public section

set_option maxRecDepth 16384

noncomputable section

namespace Cert.Proof.Host

open Idealize.ShloMosaic Idealize.ShloMosaic.TcCoe Idealize.SL.Sem Cert.KernelIdeal Cert.KernelIdeal.Gen Cert.Proof.Block Cert.Proof.Point
open Cert.KernelIdeal.Facts₀

variable (m : (ℓ : Loc nD τ sig) → Buf (Elt Ideal) ℓ) (c : Dev nD)

/-- The images, the weights and the bias of an initial memory. -/
abbrev imgs : (⟨4, ![64, 3, 384, 384]⟩ : Shape).Idx → EReal := m ((c : Thread nD τ).loc main_arg0)
abbrev wts : (⟨2, ![768, 192]⟩ : Shape).Idx → EReal := m ((c : Thread nD τ).loc main_arg1)
abbrev bias : (⟨1, ![192]⟩ : Shape).Idx → EReal := m ((c : Thread nD τ).loc main_arg2)

/-! ## The arrays at the launch -/

/-- The matrix is the literal. -/
theorem V_cst : V m c main_cst = fun i => FloatOps.ofBits (F := Ideal) .bf16 (lit0 (S384x384.rowMajor i)) := by
  sl_kernel_rfl

/-- The weights: reshaped, transposed, reshaped, padded by 64 columns. -/
theorem V_v4 : V m c main_v4 = truncf .bf16 (pad S48x16x256 ![0, 0, 0] ![0, 0, 64] ![0, 0, 0]
    (shapeCast S48x16x192 (transpose S3x16x16x192 [2, 0, 1, 3] (shapeCast S16x16x3x192 (wts m c) shapeCasts_S768x192_S16x16x3x192)
      transposes_S16x16x3x192_S3x16x16x192_2_0_1_3) shapeCasts_S3x16x16x192_S48x16x192)
    (sitofp (F := Ideal) .f32 (constantI S_ 32 0#32)) pads_S48x16x192_S48x16x256_000_000_0640 h_S_) bitsLt_bf16_f32 := by
  show StableHlo.after (List.flatten [hostOps0, hostOps0_1, hostOps0_2, hostOps0_3, hostOps0_4]) _ (Proc.devRef .tc main_v4) = _
  after_results
  try rfl

/-- The bias: padded by 64 entries, as one row. -/
theorem V_v6 : V m c main_v6 = shapeCast S1x256 (pad S256 ![0] ![64] ![0] (bias m c)
    (sitofp (F := Ideal) .f32 (constantI S_ 32 0#32)) pads_S192_S256_0640 h_S_) shapeCasts_S256_S1x256 := by
  sl_kernel_rfl

/-- The matrix permutes the columns of a row of 24 patches into taps. -/
theorem isPerm_cst : IsPerm (V m c main_cst) := by
  intro r k
  rw [V_cst]
  have hlt : r.val * 384 + k.val < 147456 := by omega
  have e : S384x384.rowMajor (ix2 r k) = ⟨r.val * 384 + k.val, hlt⟩ := Fin.ext (Shape.rowMajor_val_two _)
  show Ideal.ofBits .bf16 (lit0 (S384x384.rowMajor (ix2 r k))) = _
  rw [e, Literal.lit0_apply r k hlt]
  split
  · exact Ideal.ofBits_one_bf16
  · exact Ideal.ofBits_zero_bf16

/-- The launched weights are the given ones, tap by tap. -/
theorem isWeights_v4 : IsWeights (V m c main_v4) (wts m c) := by
  intro k e
  rw [V_v4]
  pointwise
  rw [dif_pos ⟨by omega, by omega⟩]
  refine congrArg (wts m c) ?_
  congr 1
  refine Fin.ext ?_
  show (k.val % 3 * 16 + k.val / 48) % 16 * 48 + k.val / 3 % 16 * 3 + (k.val % 3 * 16 + k.val / 48) / 16 = k.val
  have h48 : k.val / 48 < 16 := by omega
  have h1 : (k.val % 3 * 16 + k.val / 48) % 16 = k.val / 48 := by omega
  have h2 : (k.val % 3 * 16 + k.val / 48) / 16 = k.val % 3 := by omega
  rw [h1, h2, show k.val / 48 = k.val / 3 / 16 from (Nat.div_div_eq_div_mul k.val 3 16).symm]
  omega

/-- The launched bias is the given one. -/
theorem v6_apply (e : Fin 192) : (V m c main_v6 (ix2 0 ⟨e.val, by omega⟩) : EReal) = bias m c (ix1 e) := by
  rw [V_v6]
  pointwise

/-! ## The blocks -/

theorem idx0 : ∀ t : Fin cfg0.N, win0_0.index t (0 : Fin 4) = t.val ∧ win0_0.index t (1 : Fin 4) = 0 ∧ win0_0.index t (2 : Fin 4) = 0
    ∧ win0_0.index t (3 : Fin 4) = 0 := (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)

/-- A point's image block is its four images. -/
theorem iblk0 (t : Fin cfg0.N) (ht : t.val < 16) (n : Fin 4) (ch : Fin 3) (h w : Fin 384) :
    (iblk m c 0 t (ix4 n ch h w) : EReal) = imgs m c (ix4 ⟨t.val * 4 + n.val, by omega⟩ ch h w) := by
  obtain ⟨e0, e1, e2, e3⟩ := idx0 t
  show V m c main_arg0 (((cfg0.win 0).blk t).view.emb (ix4 n ch h w)) = _
  rw [V_main_arg0]
  refine congrArg (m ((c : Thread nD τ).loc main_arg0)) (funext fun a => Fin.ext ?_)
  match a with
  | ⟨0, _⟩ => show win0_0.index t (0 : Fin 4) * 4 + 1 * n.val = t.val * 4 + n.val; omega
  | ⟨1, _⟩ => show win0_0.index t (1 : Fin 4) * 3 + 1 * ch.val = ch.val; omega
  | ⟨2, _⟩ => show win0_0.index t (2 : Fin 4) * 384 + 1 * h.val = h.val; omega
  | ⟨3, _⟩ => show win0_0.index t (3 : Fin 4) * 384 + 1 * w.val = w.val; omega

/-- The weights' block is the whole array. -/
theorem iblk1 (t : Fin cfg0.N) : iblk m c 1 t = V m c main_v4 := by
  obtain ⟨e0, e1, e2⟩ := idx1 t
  funext j
  show V m c main_v4 (((cfg0.win 1).blk t).view.emb j) = V m c main_v4 j
  refine congrArg (V m c main_v4) (funext fun a => Fin.ext ?_)
  match a with
  | ⟨0, _⟩ => show win0_1.index t (0 : Fin 3) * 48 + 1 * (j 0).val = (j 0).val; omega
  | ⟨1, _⟩ => show win0_1.index t (1 : Fin 3) * 16 + 1 * (j 1).val = (j 1).val; omega
  | ⟨2, _⟩ => show win0_1.index t (2 : Fin 3) * 256 + 1 * (j 2).val = (j 2).val; omega

/-- The matrix' block is the whole array. -/
theorem iblk2 (t : Fin cfg0.N) : iblk m c 2 t = V m c main_cst := by
  obtain ⟨e0, e1⟩ := idx2 t
  funext j
  show V m c main_cst (((cfg0.win 2).blk t).view.emb j) = V m c main_cst j
  refine congrArg (V m c main_cst) (funext fun a => Fin.ext ?_)
  match a with
  | ⟨0, _⟩ => show win0_2.index t (0 : Fin 2) * 384 + 1 * (j 0).val = (j 0).val; omega
  | ⟨1, _⟩ => show win0_2.index t (1 : Fin 2) * 384 + 1 * (j 1).val = (j 1).val; omega

/-- The bias' block is the whole row. -/
theorem iblk3 (t : Fin cfg0.N) : iblk m c 3 t = V m c main_v6 := by
  obtain ⟨e0, e1⟩ := idx3 t
  funext j
  show V m c main_v6 (((cfg0.win 3).blk t).view.emb j) = V m c main_v6 j
  refine congrArg (V m c main_v6) (funext fun a => Fin.ext ?_)
  match a with
  | ⟨0, _⟩ => show win0_3.index t (0 : Fin 2) * 1 + 1 * (j 0).val = (j 0).val; omega
  | ⟨1, _⟩ => show win0_3.index t (1 : Fin 2) * 256 + 1 * (j 1).val = (j 1).val; omega

end Cert.Proof.Host

end
-- ==== Proof.Final.lean ====
/-
  The kernel's run: by induction over the grid points every point's results are the embeddings of its block's images, so the
  result arrays hold, entry by entry, the embeddings of the arguments.
-/
module

public import proofs.«01_k».proof.Proof.Host
public import proofs.«01_k».proof.Proof.Gen.KernelIdeal.Value

@[expose] public section

set_option maxRecDepth 16384

noncomputable section

namespace Cert.Proof.Final

open Idealize.ShloMosaic Idealize.ShloMosaic.TcCoe Idealize.SL.Sem Cert.KernelIdeal Cert.KernelIdeal.Gen Cert.Proof.Block Cert.Proof.Point Cert.Proof.Host
open Cert.KernelIdeal.Facts₀

variable (m : (ℓ : Loc nD τ sig) → Buf (Elt Ideal) ℓ) (ρ : Dev nD → PrngReg) (c : Dev nD)

/-- The scratch array after the first point has the weights at their places. -/
theorem scratch_A (t : Fin cfg0.N) (h0 : t.val % 16 = 0) : IsDiag (outsAt0 m c t.val t.isLt).2.2 (wts m c) := by
  have hW : IsWeights (iblk m c 1 t) (wts m c) := by rw [iblk1]; exact isWeights_v4 m c
  rw [outsAt0_A m c t h0]
  dsimp only
  exact soutA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) ((hcond0_0 t).mpr h0) (wts m c) hW

/-- Every other point leaves the scratch array as it found it. -/
theorem scratch_B (t : Fin cfg0.N) (h0 : ¬t.val % 16 = 0) :
    (outsAt0 m c t.val t.isLt).2.2 = (outsAt0 m c (t.val - 1) (Nat.lt_of_le_of_lt (Nat.sub_le _ _) t.isLt)).2.2 := by
  rw [outsAt0_B m c t h0]
  dsimp only
  unfold sout0_B_0
  rfl

/-- A point's scratch array, after it, has the weights at their places. -/
theorem scratch (n : ℕ) : ∀ hn : n < cfg0.N, IsDiag (outsAt0 m c n hn).2.2 (wts m c) := by
  induction n with
  | zero => exact fun hn => scratch_A m c ⟨0, hn⟩ (Nat.zero_mod _)
  | succ n ih =>
    intro hn
    have hN : n + 1 < 16 := lt_of_lt_of_eq hn (show cfg0.N = 16 from N_0)
    have h := scratch_B m c ⟨n + 1, hn⟩ (by show ¬(n + 1) % 16 = 0; omega)
    dsimp only at h
    rw [h]
    exact ih (Nat.lt_of_succ_lt hn)

/-- An embedding of a point's block is one of the arguments. -/
theorem blockEmb_eq (t : Fin cfg0.N) (ht : t.val < 16) (n : Fin 4) (p : Fin 576) (e : Fin 192) :
    blockEmb (iblk m c 0 t) (iblk m c 3 t) (wts m c) n p e
      = Spec.emb (imgs m c) (wts m c) (bias m c) ⟨t.val * 4 + n.val, by omega⟩ p e := by
  unfold blockEmb Spec.emb Spec.pixel
  rw [iblk3, v6_apply]
  simp only [iblk0 m c t ht]

/-- What a point leaves in the first result's block. -/
theorem outs4 (t : Fin cfg0.N) (ht : t.val < 16) (y : S4x474x192.Idx) (hy : (y 0).val < 4) : ((outsAt0 m c t.val t.isLt).1 y : EReal)
      = Spec.emb (imgs m c) (wts m c) (bias m c) ⟨t.val * 4 + (y 0).val, by omega⟩ (Ref.ctxRow (y 1)) (y 2) := by
  have hpm : IsPerm (iblk m c 2 t) := by rw [iblk2]; exact isPerm_cst m c
  by_cases h0 : t.val % 16 = 0
  · have hW : IsWeights (iblk m c 1 t) (wts m c) := by rw [iblk1]; exact isWeights_v4 m c
    rw [outsAt0_A m c t h0]
    dsimp only
    rw [outA4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) ((hcond0_0 t).mpr h0) (wts m c) hpm hW y]
    exact blockEmb_eq m c t ht (y 0) (Ref.ctxRow (y 1)) (y 2)
  · have hd := scratch m c (t.val - 1) (Nat.lt_of_le_of_lt (Nat.sub_le _ _) t.isLt)
    rw [outsAt0_B m c t h0]
    dsimp only
    rw [outB4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (outsAt0 m c (t.val - 1) (Nat.lt_of_le_of_lt (Nat.sub_le _ _) t.isLt)).2.2 (fun h => h0 ((hcond0_0 t).mp h)) (wts m c) hpm hd y]
    exact blockEmb_eq m c t ht (y 0) (Ref.ctxRow (y 1)) (y 2)

/-- What a point leaves in the second result's block. -/
theorem outs5 (t : Fin cfg0.N) (ht : t.val < 16) (y : S4x58x192.Idx) (hy : (y 0).val < 4) : ((outsAt0 m c t.val t.isLt).2.1 y : EReal)
      = Spec.emb (imgs m c) (wts m c) (bias m c) ⟨t.val * 4 + (y 0).val, by omega⟩ (Ref.tgtRow (y 1)) (y 2) := by
  have hpm : IsPerm (iblk m c 2 t) := by rw [iblk2]; exact isPerm_cst m c
  by_cases h0 : t.val % 16 = 0
  · have hW : IsWeights (iblk m c 1 t) (wts m c) := by rw [iblk1]; exact isWeights_v4 m c
    rw [outsAt0_A m c t h0]
    dsimp only
    rw [outA5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) ((hcond0_0 t).mpr h0) (wts m c) hpm hW y]
    exact blockEmb_eq m c t ht (y 0) (Ref.tgtRow (y 1)) (y 2)
  · have hd := scratch m c (t.val - 1) (Nat.lt_of_le_of_lt (Nat.sub_le _ _) t.isLt)
    rw [outsAt0_B m c t h0]
    dsimp only
    rw [outB5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (outsAt0 m c (t.val - 1) (Nat.lt_of_le_of_lt (Nat.sub_le _ _) t.isLt)).2.2 (fun h => h0 ((hcond0_0 t).mp h)) (wts m c) hpm hd y]
    exact blockEmb_eq m c t ht (y 0) (Ref.tgtRow (y 1)) (y 2)

/-- The first result array after the run. -/
theorem G4_eq : Value.G4 m c = fun i : S64x474x192.Idx => Spec.emb (imgs m c) (wts m c) (bias m c) (i 0) (Ref.ctxRow (i 1)) (i 2) := by
  funext i
  have h0 : (i 0).val < 64 := (i 0).isLt
  have h1 : (i 1).val < 474 := (i 1).isLt
  have h2 : (i 2).val < 192 := (i 2).isLt
  have hp : Value.pt4Of i = (i 0).val / 4 := by
    show 1 * ((i 0).val / 4 - 0) + 1 * ((i 1).val / 474 - 0) + 1 * ((i 2).val / 192 - 0) = _
    omega
  have hlt : Value.pt4Of i < cfg0.N := by rw [hp, show cfg0.N = 16 from N_0]; omega
  unfold Value.G4
  rw [dif_pos hlt, ← Value.outsAt0_sweep m c _ hlt]
  rw [outs4 m c ⟨_, hlt⟩ (by show Value.pt4Of i < 16; omega) _ (Nat.mod_lt _ (by decide))]
  congr 1
  · exact Fin.ext (by show Value.pt4Of i * 4 + (i 0).val % 4 = (i 0).val; omega)
  · exact congrArg _ (Fin.ext (Nat.mod_eq_of_lt h1))
  · exact Fin.ext (Nat.mod_eq_of_lt h2)

/-- The second result array after the run. -/
theorem G5_eq : Value.G5 m c = fun i : S64x58x192.Idx => Spec.emb (imgs m c) (wts m c) (bias m c) (i 0) (Ref.tgtRow (i 1)) (i 2) := by
  funext i
  have h0 : (i 0).val < 64 := (i 0).isLt
  have h1 : (i 1).val < 58 := (i 1).isLt
  have h2 : (i 2).val < 192 := (i 2).isLt
  have hp : Value.pt5Of i = (i 0).val / 4 := by
    show 1 * ((i 0).val / 4 - 0) + 1 * ((i 1).val / 58 - 0) + 1 * ((i 2).val / 192 - 0) = _
    omega
  have hlt : Value.pt5Of i < cfg0.N := by rw [hp, show cfg0.N = 16 from N_0]; omega
  unfold Value.G5
  rw [dif_pos hlt, ← Value.outsAt0_sweep m c _ hlt]
  rw [outs5 m c ⟨_, hlt⟩ (by show Value.pt5Of i < 16; omega) _ (Nat.mod_lt _ (by decide))]
  congr 1
  · exact Fin.ext (by show Value.pt5Of i * 4 + (i 0).val % 4 = (i 0).val; omega)
  · exact congrArg _ (Fin.ext (Nat.mod_eq_of_lt h1))
  · exact Fin.ext (Nat.mod_eq_of_lt h2)

/-- The kernel's run: every result entry is an embedding of the arguments' contents, and the arguments are unchanged. -/
theorem run : θ_run defs (onTc (τ := τ) (main (F := Ideal))) ⟨m, fun _ => 0, ρ⟩ fun r => ∀ c : Dev nD,
      r.2.mem ((c : Thread nD τ).loc main_v7_0)
        = (fun i : S64x474x192.Idx => Spec.emb (imgs m c) (wts m c) (bias m c) (i 0) (Ref.ctxRow (i 1)) (i 2))
      ∧ r.2.mem ((c : Thread nD τ).loc main_v7_1)
        = (fun i : S64x58x192.Idx => Spec.emb (imgs m c) (wts m c) (bias m c) (i 0) (Ref.tgtRow (i 1)) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (G4_eq m c), (h c).2.1.trans (G5_eq m c), (h c).2.2⟩) (Value.run m ρ)

end Cert.Proof.Final

end
-- ==== Proof.lean ====
/-
  The certificate's claim: the kernel as printed and as idealized, and the reference, each run and leave their arguments and
  every semaphore counter as they were; and the idealized kernel and the reference end with equal results, each entry the
  embedding of its patch.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.SL.Sem

/-- The printed kernel runs to the end, its arguments and semaphore counters as at the start. -/
theorem frame_kernel : Cert.quiescent_Kernel (hKernel := Cert.Kernel.Gen.facts) :=
  fun m ρ _ => Cert.Kernel.Gen.frame m ρ

/-- So does the idealized kernel. -/
theorem frame_kernelIdeal : Cert.quiescent_KernelIdeal (hKernelIdeal := Cert.KernelIdeal.Gen.facts) :=
  fun m ρ _ => Cert.KernelIdeal.Gen.frame m ρ

/-- So does the reference. -/
theorem frame_reference : Cert.quiescent_ReferenceIdeal (hReferenceIdeal := Cert.ReferenceIdeal.Gen.facts) :=
  fun m ρ _ => (θ_run Cert.ReferenceIdeal.defs _ _).mono (fun r h =>
    ⟨fun c => (h c).2.2, Idealize.ShloMosaic.sem_eq_zero_of_no_sems (by decide) r.2⟩) (Ref.run m ρ)

/-- The idealized kernel and the reference end with the same embeddings. -/
theorem equal_results : Cert.algebraic_KernelIdeal_ReferenceIdeal (hKernelIdeal := Cert.KernelIdeal.Gen.facts)
    (hReferenceIdeal := Cert.ReferenceIdeal.Gen.facts) := by
  intro m ρ m' ρ' _ hargs
  refine ⟨fun c => (fun i : Cert.KernelIdeal.S64x474x192.Idx =>
      Spec.emb (Host.imgs m c) (Host.wts m c) (Host.bias m c) (i 0) (Ref.ctxRow (i 1)) (i 2)),
    fun c => (fun i : Cert.KernelIdeal.S64x58x192.Idx =>
      Spec.emb (Host.imgs m c) (Host.wts m c) (Host.bias m c) (i 0) (Ref.tgtRow (i 1)) (i 2)),
    Final.run m ρ, (θ_run Cert.ReferenceIdeal.defs _ _).mono (fun r h c => ?_) (Ref.run m' ρ')⟩
  obtain ⟨h0, h1, h2⟩ := h c
  obtain ⟨a0, a1, a2⟩ := hargs c
  refine ⟨h0.trans ?_, h1.trans ?_, h2⟩
  · rw [a0, a1, a2]
    rfl
  · rw [a0, a1, a2]
    rfl

/-- Everything the certificate claims. -/
theorem claim : Cert.Claim :=
  ⟨Cert.Kernel.Gen.facts, Cert.KernelIdeal.Gen.facts, Cert.ReferenceIdeal.Gen.facts,
    frame_kernel, frame_kernelIdeal, frame_reference, trivial, equal_results⟩

end Cert.Proof

end
